-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1536, 1]⟩ ⟨2, ![3072, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S12x128 : Shape := ⟨2, ![12, 128]⟩
abbrev S2x6x128 : Shape := ⟨3, ![2, 6, 128]⟩
abbrev S2 : Shape := ⟨1, ![2]⟩
abbrev S1 : Shape := ⟨1, ![1]⟩
abbrev S_ : Shape := ⟨0, ![]⟩
abbrev S768x768 : Shape := ⟨2, ![768, 768]⟩
abbrev S768 : Shape := ⟨1, ![768]⟩
abbrev S6x128 : Shape := ⟨2, ![6, 128]⟩
abbrev S1x6x128 : Shape := ⟨3, ![1, 6, 128]⟩
abbrev S1536x1 : Shape := ⟨2, ![1536, 1]⟩

abbrev nBuf : Space → Nat
  | .hbm => 3
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S12x128, .f32⟩
  | .hbm, ⟨2, _⟩ => ⟨S1536x1, .f32⟩
  | .local _ .vmem, ⟨0, _⟩ => ⟨S12x128, .f32⟩
  | .local _ .vmem, ⟨1, _⟩ => ⟨S1536x768, .f32⟩
  | .local _ .vmem, ⟨2, _⟩ => ⟨S2x6x128, .f32⟩
  | .local _ .vmem, ⟨3, _⟩ => ⟨S2x6x128, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v16 : BitVec 32 := Scalar.muli v2 c2_i32_12
  let v17 : BitVec 32 := Scalar.addi c0_i32_13 v16
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v18 : BitVec 32 := Scalar.muli v6 c1_i32_14
  let v19 : BitVec 32 := Scalar.addi v17 v18
  v19.toNat
def k0_dev2 (d0 : Dev nD) : Nat :=
  let c0_i32_30 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_29 : BitVec 32 := 2#32
  let v30 : BitVec 32 := Scalar.muli v2 c2_i32_29
  let v31 : BitVec 32 := Scalar.addi c0_i32_30 v30
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_31 : BitVec 32 := 1#32
  let v32 : BitVec 32 := Scalar.muli v6 c1_i32_31
  let v33 : BitVec 32 := Scalar.addi v31 v32
  v33.toNat
def k0_dev3 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v52 : BitVec 32 := Scalar.muli v2 c2_i32_49
  let v53 : BitVec 32 := Scalar.addi c0_i32_50 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_51 : BitVec 32 := 1#32
  let v54 : BitVec 32 := Scalar.muli v6 c1_i32_51
  let v55 : BitVec 32 := Scalar.addi v53 v54
  v55.toNat
abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3072x1536 : Shape := ⟨2, ![3072, 1536]⟩
abbrev S_ : Shape := ⟨0, ![]⟩
abbrev S3072 : Shape := ⟨1, ![3072]⟩
abbrev S3072x1 : Shape := ⟨2, ![3072, 1]⟩

abbrev nBuf : Space → Nat
  | .hbm => 4
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S3072, .f32⟩
  | .hbm, ⟨3, _⟩ => ⟨S3072x1, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Places.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Rounds
public import Idealize.ShloMosaic.Lib.StableHlo
public import Idealize.ShloMosaic.Lib.Tactic
public import Idealize.ShloMosaic.Lib.Pipeline.RegionTalk

/-! The places of memory the exchange works with: the two row halves of a device's block, in HBM and in VMEM, and
    the two slabs of the buffer that is sent and of the buffer that is received into; what a copy between two of
    them does; and the buffers taken apart into them and put together again. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The two copies of the rounds library's algebra: the pipeline's and the exchange's. -/
abbrev UU : Type := UR sig nD τ × UR sig nD τ

local notation "𝕄" => MT nD τ sig Unit (Elt F) ℕ UU ℕ

/-! ### Devices -/

/-- The device in the other column of the same row of the mesh. -/
def pr (c : Dev nD) : Dev nD := ⟨(2 * (c.val / 2) + 1) - c.val % 2, by have h : c.val < 4 := c.isLt; show _ < 4; omega⟩

/-- The partner's partner is the device itself. -/
theorem pr_pr (c : Dev nD) : pr (pr c) = c := Fin.ext (by show 2 * ((2 * (c.val / 2) + 1 - c.val % 2) / 2) + 1 - (2 * (c.val / 2) + 1 - c.val % 2) % 2 = c.val; omega)

/-- Taking partners, as a permutation of the devices. -/
def swap : Dev nD ≃ Dev nD where
  toFun := pr
  invFun := pr
  left_inv := pr_pr
  right_inv := pr_pr

/-! ### Rectangles -/

/-- Where half `k` of a block's rows starts. -/
def rowOff : Fin 2 → Fin 2 → ℕ
  | 0 => ![0, 0]
  | 1 => ![768, 0]

/-- Half `k` lies within the block. -/
theorem rowOff_inb : ∀ k : Fin 2, ∀ a, rowOff k a + S768x768.size a ≤ S1536x768.size a
  | 0 => inb_S1536x768_S768x768_0_0
  | 1 => inb_S1536x768_S768x768_768_0

/-- The rows of half `k`. -/
abbrev rows (k : Fin 2) : Rect S1536x768 := Rect.unit (s := S1536x768) (rowOff k) S768x768.size (rowOff_inb k)

/-- Where slab `k` starts. -/
def slabOff : Fin 2 → Fin 3 → ℕ
  | 0 => ![0, 0, 0]
  | 1 => ![1, 0, 0]

/-- Slab `k` lies within its buffer. -/
theorem slabOff_inb : ∀ k : Fin 2, ∀ a, slabOff k a + S1x6x128.size a ≤ S2x6x128.size a
  | 0 => inb_S2x6x128_S1x6x128_0_0_0
  | 1 => inb_S2x6x128_S1x6x128_1_0_0

/-- Slab `k`. -/
abbrev slab (k : Fin 2) : Rect S2x6x128 := Rect.unit (s := S2x6x128) (slabOff k) S1x6x128.size (slabOff_inb k)

/-! ### The memrefs the kernel's transfers name -/

/-- Half `k` of the block in HBM. -/
abbrev xHalf (k : Fin 2) : Memref sig .tc .hbm S768x768 .f32 := (Memref.whole main_arg0).slice (rows k) (fun _ => rfl)
/-- Half `k` of the block's copy in VMEM. -/
abbrev vHalf (k : Fin 2) : Memref sig .tc .vmem S768x768 .f32 := (Memref.whole cc0_scratch0).slice (rows k) (fun _ => rfl)
/-- Slab `k` of the buffer that is sent. -/
abbrev sSlab (k : Fin 2) : Memref sig .tc .vmem S6x128 .f32 :=
  ((Memref.whole cc0_scratch1).slice (slab k) (fun _ => rfl)).squeeze S6x128 squeezes_S1x6x128_S6x128
/-- Slab `k` of the buffer that is received into. -/
abbrev rSlab (k : Fin 2) : Memref sig .tc .vmem S6x128 .f32 :=
  ((Memref.whole cc0_scratch2).slice (slab k) (fun _ => rfl)).squeeze S6x128 squeezes_S1x6x128_S6x128

/-- The slab as a store or a load goes through it. -/
abbrev sAcc (k : Fin 2) : View sig .tc .vmem S1x6x128 .f32 := (Memref.whole cc0_scratch1).access (slab k)
/-- The slab as a load goes through it, of the other buffer. -/
abbrev rAcc (k : Fin 2) : View sig .tc .vmem S1x6x128 .f32 := (Memref.whole cc0_scratch2).access (slab k)
/-- The half as a load goes through it. -/
abbrev vAcc (k : Fin 2) : View sig .tc .vmem S768x768 .f32 := (Memref.whole cc0_scratch0).access (rows k)

/-- Dropping the unit axis keeps the slab's elements. -/
theorem sSlab_set (k : Fin 2) : (sSlab k).view.set = (sAcc k).set := View.set_reshape _ _
/-- Dropping the unit axis keeps the slab's elements. -/
theorem rSlab_set (k : Fin 2) : (rSlab k).view.set = (rAcc k).set := View.set_reshape _ _

/-! ### What copies leave -/

/-- A half copied from HBM to VMEM: on the half, the VMEM buffer holds what the HBM buffer holds. -/
theorem half_landed (k : Fin 2) (fd fs : S1536x768.Idx → Elt F .f32) :
    ∀ i ∈ (vHalf k).view.set, (vHalf k).view.write (Elt F) fd ((xHalf k).view.read (Elt F) fs) Finset.univ i = fs i := by
  intro i hi
  obtain ⟨x, -, rfl⟩ := Finset.mem_map.mp hi
  rw [View.write_emb_of_mem _ _ (Finset.mem_univ _), View.read_apply, cast_cast]
  rfl

/-- A slab sent: through the receiving slab is read what was read through the sent one. -/
theorem slab_landed (k : Fin 2) (fd g : S2x6x128.Idx → Elt F .f32) :
    (rAcc k).read (Elt F) ((rSlab k).view.write (Elt F) fd ((sSlab k).view.read (Elt F) g) Finset.univ) = (sAcc k).read (Elt F) g := by
  funext y
  obtain ⟨x, rfl⟩ := (Shape.reshapeEquiv (s := S1x6x128) (s' := S6x128) squeezes_S1x6x128_S6x128.numel_eq).surjective y
  refine (congrArg (_root_.cast _) (View.write_emb_of_mem (v := (rSlab k).view) (Val := Elt F) fd ((sSlab k).view.read (Elt F) g)
    (M := Finset.univ) (x := x) (Finset.mem_univ _))).trans ?_
  rw [cast_cast]
  rfl

/-! ### Points-tos -/

variable (c : Dev nD)

/-- Half `k` of the block in HBM on device `c`, at `f`. -/
abbrev xPts (k : Fin 2) (f : S1536x768.Idx → Elt F .f32) : sProp 𝕄 :=
  (xHalf k).view.loc (c : Thread nD τ) ↦[(xHalf k).view.set]{fullShare} f
/-- Half `k` in VMEM, at `f`. -/
abbrev vPts (k : Fin 2) (f : S1536x768.Idx → Elt F .f32) : sProp 𝕄 :=
  (vHalf k).view.loc (c : Thread nD τ) ↦[(vHalf k).view.set]{fullShare} f
/-- Slab `k` of the sent buffer, at `g`. -/
abbrev sPts (k : Fin 2) (g : S2x6x128.Idx → Elt F .f32) : sProp 𝕄 :=
  (sSlab k).view.loc (c : Thread nD τ) ↦[(sSlab k).view.set]{fullShare} g
/-- Slab `k` of the receiving buffer, at `g`. -/
abbrev rPts (k : Fin 2) (g : S2x6x128.Idx → Elt F .f32) : sProp 𝕄 :=
  (rSlab k).view.loc (c : Thread nD τ) ↦[(rSlab k).view.set]{fullShare} g

/-- A buffer that is the disjoint union of two element sets, taken apart. -/
theorem apart {ℓ : Loc nD τ sig} (I J : Finset (Idx ℓ)) (hd : Disjoint I J) (hu : ∀ i, i ∈ I ∨ i ∈ J) (f : Buf (Elt F) ℓ) :
    (ℓ ↦{fullShare} f : sProp 𝕄) ⊢ iprop((ℓ ↦[I]{fullShare} f) ∗ ℓ ↦[J]{fullShare} f) := by
  have hu' : I ∪ J = Finset.univ := Finset.eq_univ_iff_forall.mpr fun i => Finset.mem_union.mpr (hu i)
  exact (Entails.of_eq (by rw [← hu'])).trans (pointsTo_union hd).1

/-- The same two parts put together, at one valuation. -/
theorem whole {ℓ : Loc nD τ sig} (I J : Finset (Idx ℓ)) (hd : Disjoint I J) (hu : ∀ i, i ∈ I ∨ i ∈ J) (f : Buf (Elt F) ℓ) :
    iprop((ℓ ↦[I]{fullShare} f) ∗ ℓ ↦[J]{fullShare} f) ⊢ (ℓ ↦{fullShare} f : sProp 𝕄) := by
  have hu' : I ∪ J = Finset.univ := Finset.eq_univ_iff_forall.mpr fun i => Finset.mem_union.mpr (hu i)
  exact (pointsTo_union hd).2.trans (Entails.of_eq (by rw [← hu']))

/-- The same two parts put together, at valuations of their own. -/
theorem whole_any {ℓ : Loc nD τ sig} (I J : Finset (Idx ℓ)) (hd : Disjoint I J) (hu : ∀ i, i ∈ I ∨ i ∈ J) (f g : Buf (Elt F) ℓ) :
    iprop((ℓ ↦[I]{fullShare} f) ∗ ℓ ↦[J]{fullShare} g) ⊢ (iprop(∃ h, ℓ ↦{fullShare} h) : sProp 𝕄) := by
  have hu' : I ∪ J = Finset.univ := Finset.eq_univ_iff_forall.mpr fun i => Finset.mem_union.mpr (hu i)
  refine (pointsTo_join hd).trans ?_
  rw [hu']
  iintro H
  iexists J.piecewise g f
  iexact H

/-- The two halves share no element. -/
theorem rows_disjoint : Disjoint (rows 0).set (rows 1).set := Rect.unit_disjoint (0 : Fin 2) (.inl (by decide))
/-- The two slabs share no element. -/
theorem slab_disjoint : Disjoint (slab 0).set (slab 1).set := Rect.unit_disjoint (0 : Fin 3) (.inl (by decide))

/-- Every row is in one of the halves. -/
theorem rows_cover (i : S1536x768.Idx) : i ∈ (rows 0).set ∨ i ∈ (rows 1).set := by
  have h0 : (i 0 : ℕ) < 1536 := (i 0).isLt
  have h1 : (i 1 : ℕ) < 768 := (i 1).isLt
  rcases Nat.lt_or_ge (i 0 : ℕ) 768 with h | h
  · exact .inl (Rect.mem_set_unit.mpr (Fin.forall_fin_two.mpr ⟨⟨Nat.zero_le _, (Nat.zero_add 768).symm ▸ h⟩, ⟨Nat.zero_le _, (Nat.zero_add 768).symm ▸ h1⟩⟩))
  · exact .inr (Rect.mem_set_unit.mpr (Fin.forall_fin_two.mpr ⟨⟨h, h0⟩, ⟨Nat.zero_le _, (Nat.zero_add 768).symm ▸ h1⟩⟩))

/-- Every element is in one of the slabs. -/
theorem slab_cover (i : S2x6x128.Idx) : i ∈ (slab 0).set ∨ i ∈ (slab 1).set := by
  have h0 : (i 0 : ℕ) < 2 := (i 0).isLt
  have h1 : (i 1 : ℕ) < 6 := (i 1).isLt
  have h2 : (i 2 : ℕ) < 128 := (i 2).isLt
  have a1 : 0 ≤ (i 1 : ℕ) ∧ (i 1 : ℕ) < 0 + 6 := by omega
  have a2 : 0 ≤ (i 2 : ℕ) ∧ (i 2 : ℕ) < 0 + 128 := by omega
  rcases Nat.lt_or_ge (i 0 : ℕ) 1 with h | h
  · have a0 : 0 ≤ (i 0 : ℕ) ∧ (i 0 : ℕ) < 0 + 1 := by omega
    exact .inl (Rect.mem_set_unit.mpr (Fin.forall_fin_succ.mpr ⟨a0, Fin.forall_fin_two.mpr ⟨a1, a2⟩⟩))
  · have a0 : 1 ≤ (i 0 : ℕ) ∧ (i 0 : ℕ) < 1 + 1 := by omega
    exact .inr (Rect.mem_set_unit.mpr (Fin.forall_fin_succ.mpr ⟨a0, Fin.forall_fin_two.mpr ⟨a1, a2⟩⟩))

/-- The half's elements are its rectangle's. -/
theorem xHalf_set (k : Fin 2) : (xHalf k).view.set = (rows k).set := View.set_slice_whole _ _
/-- The half's elements are its rectangle's. -/
theorem vHalf_set (k : Fin 2) : (vHalf k).view.set = (rows k).set := View.set_slice_whole _ _
/-- The slab's elements are its rectangle's. -/
theorem sSlab_set' (k : Fin 2) : (sSlab k).view.set = (slab k).set := (sSlab_set k).trans (View.set_slice_whole _ _)
/-- The slab's elements are its rectangle's. -/
theorem rSlab_set' (k : Fin 2) : (rSlab k).view.set = (slab k).set := (rSlab_set k).trans (View.set_slice_whole _ _)

/-- The block in HBM: its two parts share no element. -/
theorem x_disjoint : Disjoint (xHalf 0).view.set (xHalf 1).view.set := by
  rw [xHalf_set, xHalf_set]; exact rows_disjoint
/-- The block in HBM: every element is in one of the two parts. -/
theorem x_cover (i : S1536x768.Idx) : i ∈ (xHalf 0).view.set ∨ i ∈ (xHalf 1).view.set := by
  rw [xHalf_set, xHalf_set]; exact rows_cover i
/-- The block in HBM, taken apart. -/
theorem x_apart (f : S1536x768.Idx → Elt F .f32) :
    (((c : Thread nD τ).loc main_arg0) ↦{fullShare} f : sProp 𝕄) ⊢ iprop(xPts c 0 f ∗ xPts c 1 f) :=
  apart (ℓ := (c : Thread nD τ).loc main_arg0) (xHalf 0).view.set (xHalf 1).view.set x_disjoint x_cover f
/-- The block in HBM, put together. -/
theorem x_whole (f : S1536x768.Idx → Elt F .f32) :
    iprop(xPts c 0 f ∗ xPts c 1 f) ⊢ (((c : Thread nD τ).loc main_arg0) ↦{fullShare} f : sProp 𝕄) :=
  whole (ℓ := (c : Thread nD τ).loc main_arg0) (xHalf 0).view.set (xHalf 1).view.set x_disjoint x_cover f
/-- The VMEM copy: its two parts share no element. -/
theorem v_disjoint : Disjoint (vHalf 0).view.set (vHalf 1).view.set := by
  rw [vHalf_set, vHalf_set]; exact rows_disjoint
/-- The VMEM copy: every element is in one of the two parts. -/
theorem v_cover (i : S1536x768.Idx) : i ∈ (vHalf 0).view.set ∨ i ∈ (vHalf 1).view.set := by
  rw [vHalf_set, vHalf_set]; exact rows_cover i
/-- The VMEM copy, taken apart. -/
theorem v_apart (f : S1536x768.Idx → Elt F .f32) :
    (((c : Thread nD τ).loc cc0_scratch0) ↦{fullShare} f : sProp 𝕄) ⊢ iprop(vPts c 0 f ∗ vPts c 1 f) :=
  apart (ℓ := (c : Thread nD τ).loc cc0_scratch0) (vHalf 0).view.set (vHalf 1).view.set v_disjoint v_cover f
/-- The VMEM copy, put together. -/
theorem v_whole (f g : S1536x768.Idx → Elt F .f32) :
    iprop(vPts c 0 f ∗ vPts c 1 g) ⊢ (iprop(∃ h, ((c : Thread nD τ).loc cc0_scratch0) ↦{fullShare} h) : sProp 𝕄) :=
  whole_any (ℓ := (c : Thread nD τ).loc cc0_scratch0) (vHalf 0).view.set (vHalf 1).view.set v_disjoint v_cover f g
/-- The sent buffer: its two parts share no element. -/
theorem s_disjoint : Disjoint (sSlab 0).view.set (sSlab 1).view.set := by
  rw [sSlab_set', sSlab_set']; exact slab_disjoint
/-- The sent buffer: every element is in one of the two parts. -/
theorem s_cover (i : S2x6x128.Idx) : i ∈ (sSlab 0).view.set ∨ i ∈ (sSlab 1).view.set := by
  rw [sSlab_set', sSlab_set']; exact slab_cover i
/-- The sent buffer, taken apart. -/
theorem s_apart (f : S2x6x128.Idx → Elt F .f32) :
    (((c : Thread nD τ).loc cc0_scratch1) ↦{fullShare} f : sProp 𝕄) ⊢ iprop(sPts c 0 f ∗ sPts c 1 f) :=
  apart (ℓ := (c : Thread nD τ).loc cc0_scratch1) (sSlab 0).view.set (sSlab 1).view.set s_disjoint s_cover f
/-- The sent buffer, put together. -/
theorem s_whole (f g : S2x6x128.Idx → Elt F .f32) :
    iprop(sPts c 0 f ∗ sPts c 1 g) ⊢ (iprop(∃ h, ((c : Thread nD τ).loc cc0_scratch1) ↦{fullShare} h) : sProp 𝕄) :=
  whole_any (ℓ := (c : Thread nD τ).loc cc0_scratch1) (sSlab 0).view.set (sSlab 1).view.set s_disjoint s_cover f g
/-- The receiving buffer: its two parts share no element. -/
theorem r_disjoint : Disjoint (rSlab 0).view.set (rSlab 1).view.set := by
  rw [rSlab_set', rSlab_set']; exact slab_disjoint
/-- The receiving buffer: every element is in one of the two parts. -/
theorem r_cover (i : S2x6x128.Idx) : i ∈ (rSlab 0).view.set ∨ i ∈ (rSlab 1).view.set := by
  rw [rSlab_set', rSlab_set']; exact slab_cover i
/-- The receiving buffer, taken apart. -/
theorem r_apart (f : S2x6x128.Idx → Elt F .f32) :
    (((c : Thread nD τ).loc cc0_scratch2) ↦{fullShare} f : sProp 𝕄) ⊢ iprop(rPts c 0 f ∗ rPts c 1 f) :=
  apart (ℓ := (c : Thread nD τ).loc cc0_scratch2) (rSlab 0).view.set (rSlab 1).view.set r_disjoint r_cover f
/-- The receiving buffer, put together. -/
theorem r_whole (f g : S2x6x128.Idx → Elt F .f32) :
    iprop(rPts c 0 f ∗ rPts c 1 g) ⊢ (iprop(∃ h, ((c : Thread nD τ).loc cc0_scratch2) ↦{fullShare} h) : sProp 𝕄) :=
  whole_any (ℓ := (c : Thread nD τ).loc cc0_scratch2) (rSlab 0).view.set (rSlab 1).view.set r_disjoint r_cover f g

end Cert.KernelIdeal.Exch

end
-- ==== Proof.Protocol.lean ====
module

public import proofs.«01_k».proof.Proof.Places

/-! The exchange between the two devices of a row: which semaphore cells there are, what is paid into each and by whom,
    what a device owes at launch, and the levels that order the waits. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Where the pipeline's rounds live. -/
abbrev EP : Emb (UR sig nD τ) (MT nD τ sig Unit (Elt F) ℕ UU ℕ) := embL
/-- Where the exchange's rounds live. -/
abbrev ER : Emb (UR sig nD τ) (MT nD τ sig Unit (Elt F) ℕ UU ℕ) := embR

/-- What every device's block of the argument holds. -/
abbrev Blocks (F : FTy → Type) : Type := Dev nD → S1536x768.Idx → Elt F .f32

variable (X : Blocks F)

/-! ### Cells -/

/-- The kernel's own semaphores: the two of the copies into VMEM, the two of the sends, the two of the receipts. -/
abbrev dsem (j : Fin 6) : DmaSem sig := ⟨j.val + 1, Nat.succ_lt_succ j.isLt⟩
/-- The same, among all semaphores. -/
abbrev osem (j : Fin 6) : SemLoc sig := .dma (dsem j)
/-- The semaphore of the copy of half `k`. -/
def cpJ : Fin 2 → Fin 6
  | 0 => 0
  | 1 => 1
/-- The semaphore of the send of slab `k`. -/
def sdJ : Fin 2 → Fin 6
  | 0 => 2
  | 1 => 3
/-- The semaphore of the receipt of slab `k`. -/
def rcJ : Fin 2 → Fin 6
  | 0 => 4
  | 1 => 5

/-- Device `c`'s barrier cell. -/
abbrev barC (c : Dev nD) : GSem nD τ sig := ((c : Thread nD τ), .reg barrier0)
/-- Device `c`'s cell of its own semaphore `j`. -/
abbrev ownC (j : Fin 6) (c : Dev nD) : GSem nD τ sig := ((c : Thread nD τ), osem j)

/-- The units of a slab's copy. -/
abbrev N : ℕ := (rSlab 0).view.dmaCredit
/-- The units of a half block's copy. -/
abbrev NH : ℕ := (vHalf 0).view.dmaCredit

/-- What one round of own semaphore `j` takes. -/
def amt : Fin 6 → ℕ
  | 0 | 1 => NH
  | _ => N

/-- Every round takes something. -/
theorem amt_pos (j : Fin 6) : 0 < amt j := by
  have h1 : 0 < NH := View.dmaCredit_pos _ (by decide)
  have h2 : 0 < N := View.dmaCredit_pos _ (by decide)
  revert j
  exact fun | 0 | 1 => h1 | 2 | 3 | 4 | 5 => h2

/-! ### What is exchanged -/

/-- Half `k` of device `c`'s block. -/
def half (k : Fin 2) (c : Dev nD) : Vec F S768x768 .f32 := (vAcc k).read (Elt F) (X c)

/-- What device `c` puts in slab `k`: the row sums of half `k` of its block. -/
def part (c : Dev nD) : Fin 2 → FVec F S1x6x128 .f32
  | 0 => k0_pay2 (half X 0 c)
  | 1 => k0_pay3 (half X 1 c)

/-- Device `c`'s sent slab `k`, at the device's row sums. -/
def sent (k : Fin 2) (c : Dev nD) : sProp 𝕄 := iprop(∃ g, ⌜(sAcc k).read (Elt F) g = part X c k⌝ ∗ sPts c k g)
/-- Device `c`'s received slab `k`, at its partner's row sums. -/
def got (k : Fin 2) (c : Dev nD) : sProp 𝕄 := iprop(∃ g, ⌜(rAcc k).read (Elt F) g = part X (pr c) k⌝ ∗ rPts c k g)
/-- Device `c`'s half `k`, in HBM and in VMEM. -/
def copied (k : Fin 2) (c : Dev nD) : sProp 𝕄 := iprop(vPts c k (X c) ∗ xPts c k (X c))
/-- What the partner's signal hands over: its receiving buffer, and that its two receipt cells are at their first round. -/
def handed (c : Dev nD) : sProp 𝕄 :=
  iprop(((∃ g, rPts (pr c) 0 g) ∗ (∃ g, rPts (pr c) 1 g)) ∗ reached ER (ownC 4 (pr c)) 0 ∗ reached ER (ownC 5 (pr c)) 0)

/-- What one round of own semaphore `j` of device `c` delivers. -/
def ownPay (c : Dev nD) : Fin 6 → sProp 𝕄
  | 0 => copied X 0 c
  | 1 => copied X 1 c
  | 2 => sent X 0 c
  | 3 => sent X 1 c
  | 4 => got X 0 c
  | 5 => got X 1 c

/-- What an own semaphore hands over can be kept in an invariant. -/
instance ownPay_storable (c : Dev nD) (j : Fin 6) : BI.Storable (upEmb : UEmb _ 𝕄) (ownPay X c j) := by
  revert j
  exact fun
    | 0 => by show BI.Storable _ (copied X 0 c); unfold copied; infer_instance
    | 1 => by show BI.Storable _ (copied X 1 c); unfold copied; infer_instance
    | 2 => by show BI.Storable _ (sent X 0 c); unfold sent; infer_instance
    | 3 => by show BI.Storable _ (sent X 1 c); unfold sent; infer_instance
    | 4 => by show BI.Storable _ (got X 0 c); unfold got; infer_instance
    | 5 => by show BI.Storable _ (got X 1 c); unfold got; infer_instance
/-- What the partner's signal hands over can be kept in an invariant. -/
instance handed_storable (c : Dev nD) : BI.Storable (upEmb : UEmb _ 𝕄) (handed (F := F) c) := by unfold handed; infer_instance

/-- What a round delivers, by semaphore. -/
def payAt (c : Dev nD) : SemLoc sig → sProp 𝕄
  | .reg _ => handed c
  | .dma ⟨0, _⟩ => iprop(emp)
  | .dma ⟨j + 1, h⟩ => ownPay X c ⟨j, Nat.lt_of_succ_lt_succ h⟩

/-- What a round takes, by semaphore. -/
def amtAt : SemLoc sig → ℕ
  | .reg _ => 1
  | .dma ⟨0, _⟩ => 1
  | .dma ⟨j + 1, h⟩ => amt ⟨j, Nat.lt_of_succ_lt_succ h⟩

/-- The semaphores that take part. -/
def Part (g : GSem nD τ sig) : Prop := g.1.2 = .tc ∧ g.2 ≠ .dma 0

/-- Whether a semaphore takes part is decided by its kind. -/
instance (g : GSem nD τ sig) : Decidable (Part g) := by unfold Part; infer_instance

/-- The schedule: every cell has one round, with one duty. -/
def Rd : Rounds.Schedule (GSem nD τ sig) Unit 𝕄 where
  duties g r := if r = 0 ∧ Part g then {()} else ∅
  unitless _ := False
  amount g _ _ := amtAt g.2
  payload g _ _ := payAt X g.1.1 g.2
  amount_pos g _ _ _ := by
    rcases g with ⟨t, s | ⟨_ | j, h⟩⟩
    · exact Nat.one_pos
    · exact Nat.one_pos
    · exact amt_pos _

/-- Every payload of the schedule can be kept in an invariant. -/
instance Rd_storable (g : GSem nD τ sig) (r : ℕ) (d : Unit) : BI.Storable (upEmb : UEmb _ 𝕄) ((Rd X).payload g r d) := by
  rcases g with ⟨t, s | ⟨_ | j, h⟩⟩
  · exact handed_storable _
  · show BI.Storable _ (iprop(emp) : sProp 𝕄); infer_instance
  · exact ownPay_storable X _ _

section Sched
variable (c : Dev nD) (j : Fin 6)

/-- The barrier takes part. -/
theorem bar_part : Part (barC c) := ⟨rfl, fun h => by cases h⟩
/-- A device's own semaphores take part. -/
theorem own_part : Part (ownC j c) := ⟨rfl, fun h => Nat.succ_ne_zero j.val (congrArg Fin.val (SemLoc.dma.inj h))⟩

/-- A cell that takes part has its one duty. -/
theorem duties_zero {g : GSem nD τ sig} (h : Part g) : (Rd X).duties g 0 = {()} := if_pos ⟨rfl, h⟩
/-- The duty is one of the cell's. -/
theorem duty_mem {g : GSem nD τ sig} (h : Part g) : () ∈ (Rd X).duties g 0 := by rw [duties_zero X h]; exact Finset.mem_singleton_self _
/-- After the first round there is none. -/
theorem duties_later (g : GSem nD τ sig) (r : ℕ) (hr : 1 ≤ r) : (Rd X).duties g r = ∅ := if_neg fun h => by omega
/-- What the first round expects. -/
theorem expect_zero {g : GSem nD τ sig} (h : Part g) : (Rd X).expect g 0 = amtAt g.2 := by
  unfold Schedule.expect Schedule.amountOf; rw [duties_zero X h, Finset.sum_singleton]; rfl
/-- What the wait for the first round brings. -/
theorem rest_zero {g : GSem nD τ sig} (h : Part g) :
    bigSep ((Rd X).duties g 0 \ ∅) (fun u => (Rd X).payload g 0 u) = payAt X g.1.1 g.2 := by
  rw [Finset.sdiff_empty, duties_zero X h, bigSep_singleton]; rfl

end Sched

/-! ### What is owed, and the levels -/

/-- What a device still owes its partner before its second send. -/
def O₁ (c : Dev nD) : CellTallies nD τ sig Unit := tallyAt (ownC 5 (pr c)) () N
/-- What it owes before its first send. -/
def O₂ (c : Dev nD) : CellTallies nD τ sig Unit := O₁ c + tallyAt (ownC 4 (pr c)) () N
/-- What it owes at launch: the two sends and the signal. -/
def O₀ (c : Dev nD) : CellTallies nD τ sig Unit := O₂ c + tallyAt (barC (pr c)) () 1

/-- Every cell of a TensorCore is leveled. -/
def L (g : GSem nD τ sig) : Finset Unit := if g.1.2 = .tc then {()} else ∅
/-- A semaphore's level: receipts above the barrier, the barrier above the rest. -/
def lvS : SemLoc sig → ℕ
  | .reg _ => 1
  | .dma i => if 5 ≤ i.val then 2 else 0
/-- A cell's level. -/
def lv (g : GSem nD τ sig) (_ : Unit) : ℕ := lvS g.2

/-- Off the TensorCores no semaphore has a duty. -/
theorem L_of_ne (g : GSem nD τ sig) (h : g.1.2 ≠ .tc) : L g = ∅ := if_neg h
/-- On a TensorCore every semaphore has one duty a round. -/
theorem L_tc (c : Dev nD) (sm : SemLoc sig) : L ((c : Thread nD τ), sm) = {()} := if_pos rfl

/-- A tally at one cell is nothing elsewhere. -/
theorem tallyAt_pos {g g' : GSem nD τ sig} {u : Unit} {n : ℕ} (h : 0 < tallyAt g' () n g u) : g = g' := by
  rw [tallyAt_apply] at h
  split at h
  · next hg => exact hg.1
  · exact absurd h (Nat.lt_irrefl 0)

/-- What is owed before the second send is owed at the partner's second receipt. -/
theorem O₁_pos {c : Dev nD} {g : GSem nD τ sig} {u : Unit} (h : 0 < O₁ c g u) : g = ownC 5 (pr c) := tallyAt_pos h
/-- What is owed before the first send is owed at the partner's receipts. -/
theorem O₂_pos {c : Dev nD} {g : GSem nD τ sig} {u : Unit} (h : 0 < O₂ c g u) : g = ownC 5 (pr c) ∨ g = ownC 4 (pr c) := by
  unfold O₂ at h
  rw [Pi.add_apply, Finsupp.add_apply] at h
  exact (Nat.add_pos_iff_pos_or_pos.mp h).imp O₁_pos tallyAt_pos
/-- What is owed at launch is owed at the partner's receipts and barrier. -/
theorem O₀_pos {c : Dev nD} {g : GSem nD τ sig} {u : Unit} (h : 0 < O₀ c g u) :
    (g = ownC 5 (pr c) ∨ g = ownC 4 (pr c)) ∨ g = barC (pr c) := by
  unfold O₀ at h
  rw [Pi.add_apply, Finsupp.add_apply] at h
  exact (Nat.add_pos_iff_pos_or_pos.mp h).imp O₂_pos tallyAt_pos

/-- A device may wait, at a level below the receipts', while it owes receipts alone. -/
theorem mayWait_low (c d : Dev nD) (sm : SemLoc sig) (hsm : lvS sm ≤ 1) (O : CellTallies nD τ sig Unit)
    (hO : ∀ g u, 0 < O g u → g = ownC 5 d ∨ g = ownC 4 d) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by rcases hO g u hg with rfl | rfl <;> (rw [L_tc]; exact Finset.mem_singleton_self _))
    (fun p hp => by rw [Finset.mem_singleton.mp hp]; exact hsm)
    (fun g u hg => by rcases hO g u hg with rfl | rfl <;> exact (by decide : (1 : ℕ) < 2))

/-! ### The ghost state a device works with -/

/-- The cells that take part. -/
def barEmb : Dev nD ↪ GSem nD τ sig := ⟨fun c => barC c, fun _ _ h => congrArg (fun g : GSem nD τ sig => g.1.1) h⟩
/-- Different own semaphores are different. -/
theorem osem_inj : Function.Injective osem := by decide
/-- The kernel's own cells, by device and index. -/
def ownEmb : Dev nD × Fin 6 ↪ GSem nD τ sig :=
  ⟨fun cj => ownC cj.2 cj.1, fun _ _ h => Prod.ext (congrArg (fun g : GSem nD τ sig => g.1.1) h) (osem_inj (congrArg Prod.snd h))⟩
/-- All barrier cells. -/
abbrev barCells : Finset (GSem nD τ sig) := Finset.univ.map barEmb
/-- All the kernel's own cells. -/
abbrev ownCells : Finset (GSem nD τ sig) := Finset.univ.map ownEmb

/-- The barrier is among the cells. -/
theorem bar_mem (c : Dev nD) : barC c ∈ (barCells ∪ ownCells : Finset (GSem nD τ sig)) :=
  Finset.mem_union_left _ (Finset.mem_map_of_mem barEmb (Finset.mem_univ c))
/-- A device's own semaphores are among the cells. -/
theorem own_mem (j : Fin 6) (c : Dev nD) : ownC j c ∈ (barCells ∪ ownCells : Finset (GSem nD τ sig)) :=
  Finset.mem_union_right _ (Finset.mem_map_of_mem ownEmb (Finset.mem_univ (c, j)))

/-- What every device may consult: all the cells' invariants, and that every barrier cell is at its first round. -/
def records (K : GSem nD τ sig → ℕ) : sProp 𝕄 :=
  iprop((bigSep (barCells ∪ ownCells) fun g => cellInv ER (Rd X) (K g) g) ∗ bigSep barCells fun g => reached ER g 0)

/-- The records can be used any number of times. -/
instance records_persistent (K : GSem nD τ sig → ℕ) : BI.Persistent (records X K) := by unfold records; infer_instance

/-- The invariant of any cell that takes part is on record. -/
theorem rec_inv (K : GSem nD τ sig → ℕ) {g : GSem nD τ sig} (hg : g ∈ (barCells ∪ ownCells : Finset (GSem nD τ sig))) :
    records X K ⊢ cellInv ER (Rd X) (K g) g :=
  sep_elim_left.trans (bigSep_elim hg)
/-- The barrier cell's invariant is on record. -/
theorem rec_bar (K : GSem nD τ sig → ℕ) (c : Dev nD) : records X K ⊢ cellInv ER (Rd X) (K (barC c)) (barC c) := rec_inv X K (bar_mem c)
/-- Every own cell's invariant is on record. -/
theorem rec_own (K : GSem nD τ sig → ℕ) (j : Fin 6) (c : Dev nD) : records X K ⊢ cellInv ER (Rd X) (K (ownC j c)) (ownC j c) :=
  rec_inv X K (own_mem j c)
/-- That every barrier cell is at its first round is on record. -/
theorem rec_reached (K : GSem nD τ sig → ℕ) (c : Dev nD) : records X K ⊢ reached ER (barC c) 0 :=
  sep_elim_right.trans (bigSep_elim (Φ := fun g : GSem nD τ sig => (reached ER g 0 : sProp 𝕄))
    (Finset.mem_map_of_mem barEmb (Finset.mem_univ c)))

/-- The tokens of the duties device `c` pays: its partner's barrier and receipts, its own copies and sends. -/
def tokens (c : Dev nD) : sProp 𝕄 :=
  iprop(dutyTok ER (barC (pr c)) 0 () ∗ dutyTok ER (ownC 0 c) 0 () ∗ dutyTok ER (ownC 1 c) 0 () ∗ dutyTok ER (ownC 2 c) 0 ()
    ∗ dutyTok ER (ownC 3 c) 0 () ∗ dutyTok ER (ownC 4 (pr c)) 0 () ∗ dutyTok ER (ownC 5 (pr c)) 0 ())

/-- A family over the six own semaphores, spelled out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

end Cert.KernelIdeal.Exch

end
-- ==== Proof.Body.lean ====
module

public import proofs.«01_k».proof.Proof.Protocol

/-! The kernel's body on one device, as a list of steps over the two halves, and what each step does. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A program of the kernel's effects. -/
abbrev Ops (F : FTy → Type) [FloatOps F] : Type 1 := Prog (TpuEff nD τ sig (Elt F) Λ₀ .tc) PUnit

/-! ### The steps -/

/-- Start copying half `k` from HBM to VMEM. -/
def opCopy (k : Fin 2) (rest : Ops F) : Ops F :=
  .op (.enqueueDma (xHalf k) (.here (vHalf k)) (osem (cpJ k)) (View.wordExact_bits rfl) (View.wordExact_bits rfl) ⟨Or.inl rfl, trivial⟩)
    fun _ => rest

/-- Tell the device `d` that this one is here, and wait to be told. -/
def opMeet (d : Dev nD) (rest : Ops F) : Ops F :=
  .op (.semSignal (Dev.tc d) barrier0 1) fun _ => .op (.semWait barrier0 1) fun _ => rest

/-- Once half `k` is copied, put its row sums into slab `k` and start sending them to `d`. -/
def opHalf (k : Fin 2) (d : Dev nD) (pay : Vec F S768x768 .f32 → FVec F S1x6x128 .f32) (rest : Ops F) : Ops F :=
  .op (.waitDma2 (dsem (cpJ k)) (xHalf k) (vHalf k) (View.wordExact_bits rfl) (View.wordExact_bits rfl)) fun _ =>
  .op (.load (Memref.whole cc0_scratch0) (rows k).toLoadRect (View.loadsAt_vmem h_S768x768)) fun v =>
  .op (.load (Memref.whole cc0_scratch1) (slab k).toLoadRect (View.loadsAt_vmem h_S1x6x128)) fun _ =>
  .op (.store (Memref.whole cc0_scratch1) (slab k) (pay v) Finset.univ (View.stores_vmem_bits_univ h_S1x6x128 rfl) (.inl rfl)) fun _ =>
  .op (.enqueueDma (sSlab k) (.remote (Dev.tc d) (rSlab k) (osem (sdJ k))) (osem (rcJ k)) ((View.wordExact_bits rfl).reshape _ _)
    ((View.wordExact_bits rfl).reshape _ _) ⟨⟨rfl, Or.inl rfl⟩, trivial⟩) fun _ => rest

/-- Wait for slab `k` to be sent, and for the partner's to arrive. -/
def opDone (k : Fin 2) (rest : Ops F) : Ops F :=
  .op (.waitDma2 (dsem (sdJ k)) (rSlab k) (sSlab k) ((View.wordExact_bits rfl).reshape _ _) ((View.wordExact_bits rfl).reshape _ _)) fun _ =>
  .op (.waitDma2 (dsem (rcJ k)) (sSlab k) (rSlab k) ((View.wordExact_bits rfl).reshape _ _) ((View.wordExact_bits rfl).reshape _ _)) fun _ => rest

/-- Where the sums of half `k` go in the result. -/
def outOff : Fin 2 → Fin 2 → ℕ
  | 0 => ![0, 0]
  | 1 => ![6, 0]

/-- They lie within the result. -/
theorem outOff_inb : ∀ k : Fin 2, ∀ a, outOff k a + S6x128.size a ≤ S12x128.size a
  | 0 => inb_S12x128_S6x128_0_0
  | 1 => inb_S12x128_S6x128_6_0

/-- The part of the result the sums of half `k` go to. -/
abbrev outRect (k : Fin 2) : Rect S12x128 := Rect.unit (s := S12x128) (outOff k) S6x128.size (outOff_inb k)

/-- Add the partner's slab `k` to the own one, into the result. -/
def opJoin (k : Fin 2) (st : Memref sig .tc .vmem S12x128 .f32) (pay : Vec F S1x6x128 .f32 → Vec F S1x6x128 .f32 → FVec F S6x128 .f32)
    (rest : Ops F) : Ops F :=
  .op (.load (Memref.whole cc0_scratch1) (slab k).toLoadRect (View.loadsAt_vmem h_S1x6x128)) fun a =>
  .op (.load (Memref.whole cc0_scratch2) (slab k).toLoadRect (View.loadsAt_vmem h_S1x6x128)) fun b =>
  .op (.load st (outRect k).toLoadRect (View.loadsAt_vmem h_S6x128)) fun _ =>
  .op (.store st (outRect k) (pay a b) Finset.univ (View.stores_vmem_bits_univ h_S6x128 rfl) (.inl rfl)) fun _ => rest

/-- The body, step by step. -/
def steps (st : Memref sig .tc .vmem S12x128 .f32) : Ops F :=
  .op .deviceId fun d =>
  opCopy 0 <| opCopy 1 <| opMeet ⟨k0_dev1 d, k0_dev1_lt d⟩ <|
  opHalf 0 ⟨k0_dev2 d, k0_dev2_lt d⟩ k0_pay2 <| opHalf 1 ⟨k0_dev3 d, k0_dev3_lt d⟩ k0_pay3 <|
  opDone 0 <| opDone 1 <|
  opJoin 0 st k0_pay4 <| opJoin 1 st (fun a b => k0_pay1 (k0_pay5 a) b) <| .ret ⟨⟩

set_option maxRecDepth 65536 in
/-- The printed body is these steps. -/
theorem body_eq_steps (st : Memref sig .tc .vmem S12x128 .f32) (hst : st.IsWhole) :
    cc0_body (F := F) (Memref.whole main_arg0) (Memref.isWhole_whole _) st hst (Memref.whole cc0_scratch0) (Memref.isWhole_whole _)
      (Memref.whole cc0_scratch1) (Memref.isWhole_whole _) (Memref.whole cc0_scratch2) (Memref.isWhole_whole _)
      cc0_scratch3 cc0_scratch4 cc0_scratch5 = steps st := by
  rw [cc0_body_eq_skeleton]
  unfold cc0_body_skel
  rw [k0_part1_eq_skeleton, k0_part2_eq_skeleton, k0_part3_eq_skeleton, k0_part4_eq_skeleton]
  rfl

end Cert.KernelIdeal.Exch

end
-- ==== Proof.Steps.lean ====
module

public import proofs.«01_k».proof.Proof.Body

/-! What each step of the body needs and gives. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Blocks F) (K : GSem nD τ sig → ℕ) (c : Dev nD)

/-- No variant is in use. -/
abbrev 𝒱₀ : Variants := Variants.none

/-- What it takes to run `p` on device `c` to `Q`. -/
abbrev runs (c : Dev nD) (Q : PUnit → sProp 𝕄) (p : Ops F) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

/-- What the copy of a half pays. -/
theorem amt_cp (k : Fin 2) : amt (cpJ k) = NH := by revert k; exact fun | 0 => rfl | 1 => rfl
/-- What the send of a slab pays its sender. -/
theorem amt_sd (k : Fin 2) : amt (sdJ k) = N := by revert k; exact fun | 0 => rfl | 1 => rfl
/-- What the send of a slab pays its receiver. -/
theorem amt_rc (k : Fin 2) : amt (rcJ k) = N := by revert k; exact fun | 0 => rfl | 1 => rfl
/-- What the copy of a half hands over. -/
theorem pay_cp (k : Fin 2) : ownPay X c (cpJ k) = copied X k c := by revert k; exact fun | 0 => rfl | 1 => rfl
/-- What the send of a slab hands back. -/
theorem pay_sd (k : Fin 2) : ownPay X c (sdJ k) = sent X k c := by revert k; exact fun | 0 => rfl | 1 => rfl
/-- What the receipt of a slab hands over. -/
theorem pay_rc (k : Fin 2) : ownPay X c (rcJ k) = got X k c := by revert k; exact fun | 0 => rfl | 1 => rfl

/-- What the wait for own semaphore `j` brings. -/
theorem rest_own (j : Fin 6) :
    bigSep ((Rd X).duties (ownC j c) 0 \ ∅) (fun u => (Rd X).payload (ownC j c) 0 u) = ownPay X c j := rest_zero X (own_part c j)
/-- What the wait for the barrier brings. -/
theorem rest_bar :
    bigSep ((Rd X).duties (barC c) 0 \ ∅) (fun u => (Rd X).payload (barC c) 0 u) = handed c := rest_zero X (bar_part c)
/-- What the signal to the partner hands over. -/
theorem pay_bar : iprop(((∃ g, rPts c 0 g) ∗ (∃ g, rPts c 1 g)) ∗ reached ER (ownC 4 c) 0 ∗ reached ER (ownC 5 c) 0)
    ⊢ (Rd X).payload (barC (pr c)) 0 () := by
  show _ ⊢ handed (pr c)
  unfold handed; rw [pr_pr]

/-- Starting the copy of half `k`: the halves go in, the right to wait for them comes out. -/
theorem copy_step (Q : PUnit → sProp 𝕄) (k : Fin 2) (rest : Ops F) (f : S1536x768.Idx → Elt F .f32) :
    iprop(records X K ∗ xPts c k (X c) ∗ vPts c k f ∗ dutyTok ER (ownC (cpJ k) c) 0 () ∗ reached ER (ownC (cpJ k) c) 0)
      ⊢ iprop((cred (tallyAt (ownC (cpJ k) c) () (amt (cpJ k))) -∗ runs c Q rest) -∗ runs c Q (opCopy k rest)) := by
  rw [amt_cp]
  iintro ⟨#HR, Hx, Hv, Ht, Hr⟩ Hk
  unfold opCopy
  iapply (Rounds.wp_copy_pointsTo 𝒱₀ ER (Rd X) (c : Thread nD τ) none (src := xHalf k) (dst := vHalf k) (sem := osem (cpJ k)) (q := fullShare)
      (fs := X c) (fd := f) (r := 0) (d := ()) (κ := K (ownC (cpJ k) c))
      (duty_mem X (own_part c (cpJ k))) () NH rfl (amt_cp k)
      (by
        show _ ⊢ ownPay X c (cpJ k)
        rw [pay_cp]; unfold copied
        rw [pointsTo_congr (half_landed k f (X c))])) $$ [Hx Hv Ht Hr]
  · isplitr; · iapply (rec_own X K (cpJ k) c); iexact HR
    isplitl [Hx]; · iexact Hx
    isplitl [Hv]; · iexact Hv
    isplitl [Ht]; · iexact Ht
    iexact Hr
  iexact Hk

/-- Waiting for the one round of own semaphore `j`. -/
theorem wait_step (Q : PUnit → sProp 𝕄) {s : Shape} {sp sp' : Space} (j : Fin 6) (src : Memref sig .tc sp s .f32) (dst : Memref sig .tc sp' s .f32)
    (hs : src.view.WordExact) (hd : dst.view.WordExact) (ha : dst.view.dmaCredit = amt j) (O : CellTallies nD τ sig Unit)
    (hO : lvS (osem j) ≤ 1 ∧ (∀ g u, 0 < O g u → g = ownC 5 (pr c) ∨ g = ownC 4 (pr c)) ∨ O = 0) (rest : Ops F) :
    iprop(records X K ∗ levAts L lv ∗ cred (tallyAt (ownC j c) () (amt j)) ∗ ow c O ∗ atPos ER (ownC j c) 0 ∅ 0)
      ⊢ iprop(((ow c O ∗ atPos ER (ownC j c) (0 + 1) ∅ 0 ∗ ownPay X c j) -∗ runs c Q rest)
          -∗ runs c Q (.op (.waitDma2 (dsem j) src dst hs hd) fun _ => rest)) := by
  unfold ow
  iintro ⟨#HR, #Hlev, Hc, ⟨%W, HO⟩, Hat⟩ Hk
  iapply (Rounds.wp_wait_rest_token 𝒱₀ ER (Rd X) (c : Thread nD τ) none (κ := K (ownC j c))
      (wpE_waitDma2_eq (src := src) (dst := dst) 𝒱₀ (c : Thread nD τ) none Set.univ) (Set.mem_univ _) () (O := O) (W := W) (R := 0) (m := 0) (T := ∅)
      ((Nat.zero_add _).trans (ha.trans (expect_zero X (own_part c j)).symm))) $$ [Hc HO Hat]
  · isplitr; · iapply (rec_own X K j c); iexact HR
    isplitl [Hc]; · rw [ha]; iexact Hc
    isplitl [HO]; · iexact HO
    isplitr
    · rcases hO with ⟨h1, h2⟩ | rfl
      · iapply (mayWait_low c (pr c) (osem j) h1 O h2); iexact Hlev
      · rw [MayWait_zero]; iempintro
    iexact Hat
  iintro ⟨HO, Hat, -, Hp⟩
  ihave Hp := (Entails.of_eq (rest_own X c j)) $$ Hp
  iapply Hk
  isplitl [HO]; · iexists _; iexact HO
  isplitl [Hat]; · iexact Hat
  iexact Hp

/-- Meeting the partner: the own receiving buffer goes, the partner's comes. -/
theorem meet_step (Q : PUnit → sProp 𝕄) (d : Dev nD) (hd : d = pr c) (rest : Ops F) :
    iprop(records X K ∗ levAts L lv ∗ cred (tallyAt (barC c) () 1) ∗ ow c (O₀ c) ∗ atPos ER (barC c) 0 ∅ 0
        ∗ dutyTok ER (barC (pr c)) 0 () ∗ ((∃ g, rPts c 0 g) ∗ (∃ g, rPts c 1 g)) ∗ reached ER (ownC 4 c) 0 ∗ reached ER (ownC 5 c) 0)
      ⊢ iprop(((ow c (O₂ c) ∗ atPos ER (barC c) (0 + 1) ∅ 0 ∗ handed c) -∗ runs c Q rest) -∗ runs c Q (opMeet d rest)) := by
  subst hd
  unfold ow opMeet
  iintro ⟨#HR, #Hlev, Hc, ⟨%W, HO⟩, Hat, Ht, Hb, H4, H5⟩ Hk
  iapply (Rounds.wp_signal 𝒱₀ ER (Rd X) (c : Thread nD τ) none (dst := (pr c : Thread nD τ)) (sem := barrier0) (r := 0) (d := ()) (κ := K (barC (pr c)))
      (duty_mem X (bar_part (pr c))) rfl () (O₂ c) rfl) $$ [HO Ht Hb H4 H5]
  · isplitr; · iapply (rec_bar X K (pr c)); iexact HR
    isplitl [HO]; · iexact HO
    isplitl [Ht]; · iexact Ht
    isplitl [Hb H4 H5]
    · iapply (pay_bar X c)
      isplitl [Hb]; · iexact Hb
      isplitl [H4] <;> iassumption
    iapply (rec_reached X K (pr c)); iexact HR
  iintro HO
  iapply (Rounds.wp_wait_rest_token 𝒱₀ ER (Rd X) (c : Thread nD τ) none (κ := K (barC c))
      (wpE_semWait_eq 𝒱₀ (c : Thread nD τ) none Set.univ) (Set.mem_univ _) () (O := O₂ c) (W := W) (R := 0) (m := 0) (T := ∅)
      ((Nat.zero_add 1).trans (expect_zero X (bar_part c)).symm)) $$ [Hc HO Hat]
  · isplitr; · iapply (rec_bar X K c); iexact HR
    isplitl [Hc]; · iexact Hc
    isplitl [HO]; · iexact HO
    isplitr; · iapply (mayWait_low c (pr c) (.reg barrier0) le_rfl (O₂ c) fun g u h => O₂_pos h); iexact Hlev
    iexact Hat
  iintro ⟨HO, Hat, -, Hp⟩
  ihave Hp := (Entails.of_eq (rest_bar X c)) $$ Hp
  iapply Hk
  isplitl [HO]; · iexists _; iexact HO
  isplitl [Hat]; · iexact Hat
  iexact Hp

/-- Half `k`: its copy awaited, its row sums taken and sent. -/
theorem half_step (Q : PUnit → sProp 𝕄) (k : Fin 2) (d : Dev nD) (hd : d = pr c) (pay : Vec F S768x768 .f32 → FVec F S1x6x128 .f32)
    (hpay : pay (half X k c) = part X c k) (O O' : CellTallies nD τ sig Unit)
    (hO : O = O' + tallyAt (ownC (rcJ k) (pr c)) () N) (hlow : ∀ g u, 0 < O g u → g = ownC 5 (pr c) ∨ g = ownC 4 (pr c))
    (rest : Ops F) :
    iprop(records X K ∗ levAts L lv ∗ cred (tallyAt (ownC (cpJ k) c) () (amt (cpJ k))) ∗ ow c O ∗ atPos ER (ownC (cpJ k) c) 0 ∅ 0
        ∗ (∃ g, sPts c k g) ∗ (∃ g, rPts (pr c) k g)
        ∗ dutyTok ER (ownC (sdJ k) c) 0 () ∗ reached ER (ownC (sdJ k) c) 0
        ∗ dutyTok ER (ownC (rcJ k) (pr c)) 0 () ∗ reached ER (ownC (rcJ k) (pr c)) 0)
      ⊢ iprop(((ow c O' ∗ atPos ER (ownC (cpJ k) c) (0 + 1) ∅ 0 ∗ copied X k c ∗ cred (tallyAt (ownC (sdJ k) c) () (amt (sdJ k)))) -∗ runs c Q rest)
          -∗ runs c Q (opHalf k d pay rest)) := by
  subst hd
  unfold opHalf
  iintro ⟨#HR, #Hlev, Hc, HO, Hat, ⟨%g, Hs⟩, ⟨%fn, Hn⟩, HtS, HrS, HtR, HrR⟩ Hk
  iapply (wait_step X K c Q (cpJ k) (xHalf k) (vHalf k) _ _ ((show _ = NH from rfl).trans (amt_cp k).symm) O
    (.inl ⟨by revert k; exact fun | 0 => by intros; decide | 1 => by intros; decide, hlow⟩) _) $$ [Hc HO Hat]
  · isplitr; · iexact HR
    isplitr; · iexact Hlev
    isplitl [Hc]; · iexact Hc
    isplitl [HO] <;> iassumption
  iintro ⟨HO, Hat, Hp⟩
  ihave Hp := (Entails.of_eq ((pay_cp X c k).trans (by unfold copied; rfl))) $$ Hp
  icases Hp with ⟨Hv, Hx⟩
  iapply (wp_load_rect 𝒱₀ (c : Thread nD τ) none Set.univ (m := Memref.whole cc0_scratch0) (r := rows k) (S := (vHalf k).view.set)
    (q := fullShare) (f := X c) (Finset.Subset.refl _)) $$ [Hv]
  · iexact Hv
  iintro Hv
  iapply (wp_load_rect 𝒱₀ (c : Thread nD τ) none Set.univ (m := Memref.whole cc0_scratch1) (r := slab k) (S := (sSlab k).view.set)
    (q := fullShare) (f := g) (by rw [sSlab_set])) $$ [Hs]
  · iexact Hs
  iintro Hs
  iapply (wp_store 𝒱₀ (c : Thread nD τ) none Set.univ (m := Memref.whole cc0_scratch1) (r := slab k) (S := (sSlab k).view.set)
    (f := g) (by rw [sSlab_set]; exact Finset.Subset.refl _)) $$ [Hs]
  · iexact Hs
  iintro Hs
  unfold ow
  icases HO with ⟨%W, HO⟩
  iapply (Rounds.wp_send_pointsTo 𝒱₀ ER (Rd X) (c : Thread nD τ) none (c' := (pr c : Thread nD τ)) (src := sSlab k) (dst := rSlab k)
      (sS := osem (sdJ k)) (sem := osem (rcJ k)) (q := fullShare) (κ₁ := K (ownC (sdJ k) c)) (κ₂ := K (ownC (rcJ k) (pr c)))
      (r₁ := 0) (r₂ := 0) (d₁ := ()) (d₂ := ()) (fd := fn)
      (fs := (sAcc k).write (Elt F) g (pay ((vAcc k).read (Elt F) (X c))) Finset.univ)
      (duty_mem X (own_part c (sdJ k))) (duty_mem X (own_part (pr c) (rcJ k)))
      () () N rfl (amt_sd k) (amt_rc k) O' hO (W := W)
      (by
        show _ ⊢ ownPay X c (sdJ k)
        rw [pay_sd]; unfold sent
        iintro H; iexists ((sAcc k).write (Elt F) g (pay ((vAcc k).read (Elt F) (X c))) Finset.univ)
        isplitr; · ipureintro; exact (View.read_write_univ _ _).trans hpay
        iexact H)
      (by
        show _ ⊢ ownPay X (pr c) (rcJ k)
        rw [pay_rc]; unfold got
        iintro H; iexists (rSlab k).view.write (Elt F) fn ((sSlab k).view.read (Elt F) ((sAcc k).write (Elt F) g (pay ((vAcc k).read (Elt F) (X c))) Finset.univ)) Finset.univ
        isplitr
        · ipureintro
          exact (slab_landed k fn _).trans ((View.read_write_univ _ _).trans (hpay.trans (by rw [pr_pr])))
        iexact H)) $$ [Hs Hn HO HtS HrS HtR HrR]
  · isplitr; · iapply (rec_own X K (sdJ k) c); iexact HR
    isplitr; · iapply (rec_own X K (rcJ k) (pr c)); iexact HR
    isplitl [Hs]; · iexact Hs
    isplitl [Hn]; · iexact Hn
    isplitl [HO]; · iexact HO
    isplitl [HtS]; · iexact HtS
    isplitl [HrS]; · iexact HrS
    isplitl [HtR]; · iexact HtR
    iexact HrR
  iintro ⟨Hcs, HO⟩
  iapply Hk
  isplitl [HO]; · iexists W; iexact HO
  isplitl [Hat]; · iexact Hat
  isplitl [Hv Hx]; · unfold copied; isplitl [Hv] <;> iassumption
  rw [amt_sd]; iexact Hcs

/-- Slab `k` sent, and the partner's received. -/
theorem done_step (Q : PUnit → sProp 𝕄) (k : Fin 2) (rest : Ops F) :
    iprop(records X K ∗ levAts L lv ∗ ow c 0
        ∗ cred (tallyAt (ownC (sdJ k) c) () (amt (sdJ k))) ∗ atPos ER (ownC (sdJ k) c) 0 ∅ 0
        ∗ cred (tallyAt (ownC (rcJ k) c) () (amt (rcJ k))) ∗ atPos ER (ownC (rcJ k) c) 0 ∅ 0)
      ⊢ iprop(((ow c 0 ∗ atPos ER (ownC (sdJ k) c) (0 + 1) ∅ 0 ∗ atPos ER (ownC (rcJ k) c) (0 + 1) ∅ 0 ∗ sent X k c ∗ got X k c) -∗ runs c Q rest)
          -∗ runs c Q (opDone k rest)) := by
  unfold opDone
  iintro ⟨#HR, #Hlev, HO, HcS, HaS, HcR, HaR⟩ Hk
  iapply (wait_step X K c Q (sdJ k) (rSlab k) (sSlab k) _ _ ((show _ = N from rfl).trans (amt_sd k).symm) 0 (.inr rfl) _) $$ [HO HcS HaS]
  · isplitr; · iexact HR
    isplitr; · iexact Hlev
    isplitl [HcS]; · iexact HcS
    isplitl [HO] <;> iassumption
  iintro ⟨HO, HaS, HpS⟩
  iapply (wait_step X K c Q (rcJ k) (sSlab k) (rSlab k) _ _ ((show _ = N from rfl).trans (amt_rc k).symm) 0 (.inr rfl) _) $$ [HO HcR HaR]
  · isplitr; · iexact HR
    isplitr; · iexact Hlev
    isplitl [HcR]; · iexact HcR
    isplitl [HO] <;> iassumption
  iintro ⟨HO, HaR, HpR⟩
  iapply Hk
  isplitl [HO]; · iexact HO
  isplitl [HaS]; · iexact HaS
  isplitl [HaR]; · iexact HaR
  isplitl [HpS]
  · iapply (Entails.of_eq (pay_sd X c k)) $$ HpS
  · iapply (Entails.of_eq (pay_rc X c k)) $$ HpR

/-- The sums of half `k` put into the result. -/
theorem join_step (Q : PUnit → sProp 𝕄) (k : Fin 2) (st : Memref sig .tc .vmem S12x128 .f32) (pay : Vec F S1x6x128 .f32 → Vec F S1x6x128 .f32 → FVec F S6x128 .f32)
    (rest : Ops F) (f : Buf (Elt F) (st.view.loc (c : Thread nD τ))) :
    iprop(sent X k c ∗ got X k c ∗ st.view.loc (c : Thread nD τ) ↦[st.view.set]{fullShare} f)
      ⊢ iprop(((sent X k c ∗ got X k c ∗ st.view.loc (c : Thread nD τ) ↦[st.view.set]{fullShare}
            (st.access (outRect k)).write (Elt F) f (pay (part X c k) (part X (pr c) k)) Finset.univ) -∗ runs c Q rest)
          -∗ runs c Q (opJoin k st pay rest)) := by
  unfold opJoin sent got
  iintro ⟨⟨%a, %ha, Ha⟩, ⟨%b, %hb, Hb⟩, Hs⟩ Hk
  iapply (wp_load_rect 𝒱₀ (c : Thread nD τ) none Set.univ (m := Memref.whole cc0_scratch1) (r := slab k) (S := (sSlab k).view.set)
    (q := fullShare) (f := a) (by rw [sSlab_set])) $$ [Ha]
  · iexact Ha
  iintro Ha
  iapply (wp_load_rect 𝒱₀ (c : Thread nD τ) none Set.univ (m := Memref.whole cc0_scratch2) (r := slab k) (S := (rSlab k).view.set)
    (q := fullShare) (f := b) (by rw [rSlab_set])) $$ [Hb]
  · iexact Hb
  iintro Hb
  iapply (wp_load_rect 𝒱₀ (c : Thread nD τ) none Set.univ (m := st) (r := outRect k) (S := st.view.set)
    (q := fullShare) (f := f) (View.set_slice_subset _ _)) $$ [Hs]
  · iexact Hs
  iintro Hs
  iapply (wp_store 𝒱₀ (c : Thread nD τ) none Set.univ (m := st) (r := outRect k) (S := st.view.set)
    (f := f) (View.set_slice_subset _ _)) $$ [Hs]
  · iexact Hs
  iintro Hs
  iapply Hk
  isplitl [Ha]
  · iexists a; isplitr; · ipureintro; exact ha
    iexact Ha
  isplitl [Hb]
  · iexists b; isplitr; · ipureintro; exact hb
    iexact Hb
  rw [← ha, ← hb]
  iexact Hs

end Cert.KernelIdeal.Exch

end
-- ==== Proof.Exchange.lean ====
module

public import proofs.«01_k».proof.Proof.Steps

/-! The body from its first step to its last on one device, and the result it leaves. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ### The result -/

/-- An element of the result, within its half. -/
def down (i : S12x128.Idx) : S6x128.Idx := fun a => match a with
  | 0 => ⟨(i 0).val % 6, Nat.mod_lt _ (by decide)⟩
  | 1 => ⟨(i 1).val, (i 1).isLt⟩

/-- Two half results, one above the other. -/
def joined (A B : S6x128.Idx → Elt F .f32) : S12x128.Idx → Elt F .f32 :=
  fun i => if (i 0).val < 6 then A (down i) else B (down i)

/-- An element of the upper half lies where it is found. -/
theorem up0 (i : S12x128.Idx) (h : (i 0).val < 6) : (outRect 0).emb (down i) = i := by
  funext a
  refine Fin.ext ?_
  rw [Rect.emb_apply]
  revert a
  refine Fin.forall_fin_two.mpr ⟨?_, ?_⟩
  · show 0 + 1 * ((i 0).val % 6) = (i 0).val
    omega
  · show 0 + 1 * (i 1).val = (i 1).val
    omega

/-- An element of the lower half lies six rows below where it is found. -/
theorem up1 (i : S12x128.Idx) (h : ¬ (i 0).val < 6) : (outRect 1).emb (down i) = i := by
  funext a
  refine Fin.ext ?_
  rw [Rect.emb_apply]
  revert a
  refine Fin.forall_fin_two.mpr ⟨?_, ?_⟩
  · have h12 : (i 0).val < 12 := (i 0).isLt
    show 6 + 1 * ((i 0).val % 6) = (i 0).val
    omega
  · show 0 + 1 * (i 1).val = (i 1).val
    omega

/-- The two halves of the result share no element. -/
theorem out_disjoint (st : Memref sig .tc .vmem S12x128 .f32) : Disjoint (st.access (outRect 0)).set (st.access (outRect 1)).set := by
  rw [View.set_slice, View.set_slice, Finset.disjoint_map]
  exact Rect.unit_disjoint (0 : Fin 2) (.inl (by decide))

/-- After both halves are stored, the result is read whole, whatever was there. -/
theorem joined_read (st : Memref sig .tc .vmem S12x128 .f32) (f : st.view.ty.Contents (Elt F)) (A B : S6x128.Idx → Elt F .f32) :
    st.view.read (Elt F) ((st.access (outRect 1)).write (Elt F) ((st.access (outRect 0)).write (Elt F) f A Finset.univ) B Finset.univ)
      = joined A B := by
  have h0 : (st.access (outRect 0)).read (Elt F)
      ((st.access (outRect 1)).write (Elt F) ((st.access (outRect 0)).write (Elt F) f A Finset.univ) B Finset.univ) = A :=
    (View.read_slice_write_slice_of_disjoint _ _ _ _ _ (out_disjoint st)).trans (View.read_write_univ _ _)
  have h1 : (st.access (outRect 1)).read (Elt F)
      ((st.access (outRect 1)).write (Elt F) ((st.access (outRect 0)).write (Elt F) f A Finset.univ) B Finset.univ) = B :=
    View.read_write_univ _ _
  funext i
  unfold joined
  split
  · next h => exact (congrArg (st.view.read (Elt F) _) (up0 i h)).symm.trans (congrFun h0 (down i))
  · next h => exact (congrArg (st.view.read (Elt F) _) (up1 i h)).symm.trans (congrFun h1 (down i))

variable (X : Blocks F) (K : GSem nD τ sig → ℕ) (c : Dev nD)

/-- What device `c` ends with: the sums of its rows over both devices' columns. -/
def res (c : Dev nD) : S12x128.Idx → Elt F .f32 :=
  joined (k0_pay4 (part X c 0) (part X (pr c) 0)) (k0_pay1 (k0_pay5 (part X c 1)) (part X (pr c) 1))

/-! ### The run -/

/-- The device that the signal names is the partner. -/
theorem dev1_eq : (⟨k0_dev1 c, k0_dev1_lt c⟩ : Dev nD) = pr c := Fin.ext (k0_dev1_eq c)
/-- The device that the first send names is the partner. -/
theorem dev2_eq : (⟨k0_dev2 c, k0_dev2_lt c⟩ : Dev nD) = pr c := Fin.ext (k0_dev2_eq c)
/-- The device that the second send names is the partner. -/
theorem dev3_eq : (⟨k0_dev3 c, k0_dev3_lt c⟩ : Dev nD) = pr c := Fin.ext (k0_dev3_eq c)

/-- A scratch buffer at contents not chosen. -/
abbrev anyAt (b : Ref sig .tc) : sProp 𝕄 := iprop(∃ f : Buf (Elt F) ((c : Thread nD τ).loc b), ((c : Thread nD τ).loc b) ↦{fullShare} f)

/-- The kernel's own cells, opened: each at its first round. -/
def opened : sProp 𝕄 := bigSep Finset.univ fun j : Fin 6 => iprop(atPos ER (ownC j c) 0 ∅ 0 ∗ reached ER (ownC j c) 0)

/-- What the body starts from, beside the buffers and what it owes. -/
def ready : sProp 𝕄 :=
  iprop(records X K ∗ levAts L lv ∗ opened c ∗ atPos ER (barC c) 0 ∅ 0 ∗ tokens c
    ∗ cred (tallyAt (barC c) () 1) ∗ cred (tallyAt (ownC 4 c) () N) ∗ cred (tallyAt (ownC 5 c) () N))

/-- All of the kernel's own counters, at zero. -/
def zeros : sProp 𝕄 := bigSep Finset.univ fun j : Fin 6 => (semVal (ownC j c) 0 : sProp 𝕄)

/-- A cell whose round is over is closed, its counter at zero. -/
theorem close_cell (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id fun r hr => duties_later X g r hr

/-- All of the kernel's own cells closed. -/
theorem close_own : iprop(records X K ∗ bigSep Finset.univ fun j : Fin 6 => (atPos ER (ownC j c) (0 + 1) ∅ 0 : sProp 𝕄))
    ⊢ (|={Set.univ}=> zeros c : sProp 𝕄) :=
  (bigSep_with_persistent (S := Finset.univ) (R := records X K) (Φ := fun j : Fin 6 => (atPos ER (ownC j c) (0 + 1) ∅ 0 : sProp 𝕄))
    (Ψ := fun j : Fin 6 => iprop(|={Set.univ}=> semVal (ownC j c) 0)) fun j _ => by
      iintro ⟨HR, Ha⟩
      iapply (close_cell X (K (ownC j c)) (ownC j c))
      isplitl [HR]; · iapply (rec_own X K j c); iexact HR
      iexact Ha).trans (bigSep_fupd _ _)

/-- The body on device `c`: from everything ready, to every buffer back, the result in the staging buffer, every counter at
    zero and nothing owed. -/
theorem body_run (Q : PUnit → sProp 𝕄) (st : Memref sig .tc .vmem S12x128 .f32) (f : Buf (Elt F) (st.view.loc (c : Thread nD τ))) :
    iprop((ready X K c ∗ (((c : Thread nD τ).loc main_arg0) ↦{fullShare} X c)
          ∗ (anyAt c cc0_scratch0 ∗ anyAt c cc0_scratch1 ∗ anyAt c cc0_scratch2)
          ∗ (st.view.loc (c : Thread nD τ) ↦[st.view.set]{fullShare} f) ∗ ow c (O₀ c))
        ∗ ((semVal (barC c) 0 ∗ zeros c ∗ (((c : Thread nD τ).loc main_arg0) ↦{fullShare} X c)
          ∗ (anyAt c cc0_scratch0 ∗ anyAt c cc0_scratch1 ∗ anyAt c cc0_scratch2)
          ∗ owns (c : Thread nD τ) st fullShare (res X c) ∗ ow c 0) -∗ Q ⟨⟩))
      ⊢ runs c Q (steps st) := by
  unfold steps runs
  rw [wp_deviceId]
  show _ ⊢ runs c Q (opCopy 0 <| opCopy 1 <| opMeet ⟨k0_dev1 c, k0_dev1_lt c⟩ <|
    opHalf 0 ⟨k0_dev2 c, k0_dev2_lt c⟩ k0_pay2 <| opHalf 1 ⟨k0_dev3 c, k0_dev3_lt c⟩ k0_pay3 <|
    opDone 0 <| opDone 1 <| opJoin 0 st k0_pay4 <| opJoin 1 st (fun a b => k0_pay1 (k0_pay5 a) b) <| .ret ⟨⟩)
  unfold ready opened tokens
  rw [six]
  iintro ⟨⟨⟨#HR, #Hlev, ⟨⟨Ha0, #Hr0⟩, ⟨Ha1, #Hr1⟩, ⟨Ha2, #Hr2⟩, ⟨Ha3, #Hr3⟩, ⟨Ha4, #Hr4⟩, Ha5, #Hr5⟩, HaB, ⟨HtB, Ht0, Ht1, Ht2, Ht3, Ht4, Ht5⟩, HcB, Hc4, Hc5⟩, Hx, ⟨⟨%fv, Hv⟩, ⟨%fs, Hs⟩, %fr, Hr⟩, Hst, HO⟩, Hk⟩
  ihave Hx := (x_apart c (X c)) $$ Hx
  icases Hx with ⟨Hx0, Hx1⟩
  ihave Hv := (v_apart c fv) $$ Hv
  icases Hv with ⟨Hv0, Hv1⟩
  ihave Hs := (s_apart c fs) $$ Hs
  icases Hs with ⟨Hs0, Hs1⟩
  ihave Hr := (r_apart c fr) $$ Hr
  icases Hr with ⟨Hn0, Hn1⟩
  iapply (copy_step X K c Q 0 _ fv) $$ [Hx0 Hv0 Ht0]
  · isplitr; · iexact HR
    isplitl [Hx0]; · iexact Hx0
    isplitl [Hv0]; · iexact Hv0
    isplitl [Ht0]; · iexact Ht0
    iexact Hr0
  iintro Hc0
  iapply (copy_step X K c Q 1 _ fv) $$ [Hx1 Hv1 Ht1]
  · isplitr; · iexact HR
    isplitl [Hx1]; · iexact Hx1
    isplitl [Hv1]; · iexact Hv1
    isplitl [Ht1]; · iexact Ht1
    iexact Hr1
  iintro Hc1
  iapply (meet_step X K c Q _ (dev1_eq c) _) $$ [HcB HO HaB HtB Hn0 Hn1]
  · isplitr; · iexact HR
    isplitr; · iexact Hlev
    isplitl [HcB]; · iexact HcB
    isplitl [HO]; · iexact HO
    isplitl [HaB]; · iexact HaB
    isplitl [HtB]; · iexact HtB
    isplitl [Hn0 Hn1]
    · isplitl [Hn0]
      · iexists fr; iexact Hn0
      · iexists fr; iexact Hn1
    isplitr; · iexact Hr4
    iexact Hr5
  iintro ⟨HO, HaB, Hh⟩
  unfold handed
  icases Hh with ⟨⟨Hp0, Hp1⟩, #HrP4, #HrP5⟩
  iapply (half_step X K c Q 0 _ (dev2_eq c) k0_pay2 rfl (O₂ c) (O₁ c) rfl (fun g u h => O₂_pos h) _) $$ [Hc0 HO Ha0 Hs0 Hp0 Ht2 Ht4]
  · isplitr; · iexact HR
    isplitr; · iexact Hlev
    isplitl [Hc0]; · iexact Hc0
    isplitl [HO]; · iexact HO
    isplitl [Ha0]; · iexact Ha0
    isplitl [Hs0]; · iexists fs; iexact Hs0
    isplitl [Hp0]; · iexact Hp0
    isplitl [Ht2]; · iexact Ht2
    isplitr; · iexact Hr2
    isplitl [Ht4]; · iexact Ht4
    iexact HrP4
  iintro ⟨HO, Ha0, Hd0, Hc2⟩
  iapply (half_step X K c Q 1 _ (dev3_eq c) k0_pay3 rfl (O₁ c) 0 (zero_add _).symm (fun g u h => .inl (O₁_pos h)) _) $$ [Hc1 HO Ha1 Hs1 Hp1 Ht3 Ht5]
  · isplitr; · iexact HR
    isplitr; · iexact Hlev
    isplitl [Hc1]; · iexact Hc1
    isplitl [HO]; · iexact HO
    isplitl [Ha1]; · iexact Ha1
    isplitl [Hs1]; · iexists fs; iexact Hs1
    isplitl [Hp1]; · iexact Hp1
    isplitl [Ht3]; · iexact Ht3
    isplitr; · iexact Hr3
    isplitl [Ht5]; · iexact Ht5
    iexact HrP5
  iintro ⟨HO, Ha1, Hd1, Hc3⟩
  iapply (done_step X K c Q 0 _) $$ [HO Hc2 Ha2 Hc4 Ha4]
  · isplitr; · iexact HR
    isplitr; · iexact Hlev
    isplitl [HO]; · iexact HO
    isplitl [Hc2]; · iexact Hc2
    isplitl [Ha2]; · iexact Ha2
    isplitl [Hc4]; · iexact Hc4
    iexact Ha4
  iintro ⟨HO, Ha2, Ha4, HS0, HG0⟩
  iapply (done_step X K c Q 1 _) $$ [HO Hc3 Ha3 Hc5 Ha5]
  · isplitr; · iexact HR
    isplitr; · iexact Hlev
    isplitl [HO]; · iexact HO
    isplitl [Hc3]; · iexact Hc3
    isplitl [Ha3]; · iexact Ha3
    isplitl [Hc5]; · iexact Hc5
    iexact Ha5
  iintro ⟨HO, Ha3, Ha5, HS1, HG1⟩
  iapply (join_step X c Q 0 st k0_pay4 _ f) $$ [HS0 HG0 Hst]
  · isplitl [HS0]; · iexact HS0
    isplitl [HG0] <;> iassumption
  iintro ⟨HS0, HG0, Hst⟩
  iapply (join_step X c Q 1 st (fun a b => k0_pay1 (k0_pay5 a) b) _ _) $$ [HS1 HG1 Hst]
  · isplitl [HS1]; · iexact HS1
    isplitl [HG1] <;> iassumption
  iintro ⟨HS1, HG1, Hst⟩
  unfold runs
  rw [wp_ret]
  imod (close_cell X (K (barC c)) (barC c)) $$ [HaB] with Hb0
  · isplitr; · iapply (rec_bar X K c); iexact HR
    iexact HaB
  imod (close_own X K c) $$ [Ha0 Ha1 Ha2 Ha3 Ha4 Ha5] with Hz
  · isplitr; · iexact HR
    rw [six]
    isplitl [Ha0]; · iexact Ha0
    isplitl [Ha1]; · iexact Ha1
    isplitl [Ha2]; · iexact Ha2
    isplitl [Ha3]; · iexact Ha3
    isplitl [Ha4]; · iexact Ha4
    iexact Ha5
  imodintro
  iapply Hk
  unfold copied sent got
  icases Hd0 with ⟨Hv0, Hx0⟩
  icases Hd1 with ⟨Hv1, Hx1⟩
  icases HS0 with ⟨%s0, -, HS0⟩
  icases HS1 with ⟨%s1, -, HS1⟩
  icases HG0 with ⟨%g0, -, HG0⟩
  icases HG1 with ⟨%g1, -, HG1⟩
  isplitl [Hb0]; · iexact Hb0
  isplitl [Hz]; · iexact Hz
  isplitl [Hx0 Hx1]
  · iapply (x_whole c (X c))
    isplitl [Hx0] <;> iassumption
  isplitl [Hv0 Hv1 HS0 HS1 HG0 HG1]
  · isplitl [Hv0 Hv1]
    · iapply (v_whole c (X c) (X c))
      isplitl [Hv0] <;> iassumption
    isplitl [HS0 HS1]
    · iapply (s_whole c s0 s1)
      isplitl [HS0] <;> iassumption
    · iapply (r_whole c g0 g1)
      isplitl [HG0] <;> iassumption
  isplitl [Hst]
  · unfold owns
    iexists _
    isplitr [Hst]
    rotate_left
    · iexact Hst
    · ipureintro; exact joined_read st f _ _
  iexact HO

end Cert.KernelIdeal.Exch

end
-- ==== Proof.Region.lean ====
module

public import proofs.«01_k».proof.Proof.Exchange
public import Idealize.ShloMosaic.Lib.Pipeline.ValueKit.Geometry

/-! The kernel's call as one region of the program: what a device brings into it, the body's obligation there, and what
    the device takes out of it. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ### The buffers of the program -/

/-- What the devices' blocks of the argument hold in a memory. -/
def blk : Blocks F := fun c => m ((c : Thread nD τ).loc main_arg0)
/-- A device's buffers at launch. -/
def V₀ (c : Dev nD) : Valuation τ sig (Elt F) := fun b => m (c, b)
/-- After the kernel: the result where the kernel leaves it. -/
def V₁ (c : Dev nD) : Valuation τ sig (Elt F) := Function.update (V₀ m c) (Proc.devRef .tc main_v1) (res (blk m) c)
/-- After the reshape. -/
def V₂ (c : Dev nD) : Valuation τ sig (Elt F) := StableHlo.after hostOps1 (V₁ m c)

/-- The buffers of the program that live outside the kernel. -/
def bufs : Finset (DevRef τ sig) := (StableHlo.tcRefs τ sig).filter fun b => ¬ b.isScoped
/-- The one the kernel addresses itself. -/
def argRef : Finset (DevRef τ sig) := {Proc.devRef .tc main_arg0}
/-- Those the kernel's pipeline does not move. -/
def offRefs : Finset (DevRef τ sig) := {Proc.devRef .tc main_arg0, Proc.devRef .tc main_v2}

/-- A buffer of device `c`, whole, at what `W` says of it. -/
abbrev at_ (c : Dev nD) (W : Valuation τ sig (Elt F)) (b : Ref sig .tc) : sProp 𝕄 :=
  ((c : Thread nD τ).loc b) ↦{fullShare} (W (Proc.devRef .tc b))

/-- The unscoped buffers as the launch deals them are those of `bufs`. -/
theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, bigSep_map]
  rfl
/-- The program's buffers, one by one. -/
theorem bufs_held (c : Dev nD) (W : Valuation τ sig (Elt F)) :
    (StableHlo.held (c : Thread nD τ) bufs W : sProp 𝕄) = iprop(at_ c W main_arg0 ∗ at_ c W main_v1 ∗ at_ c W main_v2) :=
  bigSep_eq_bigSepL_of_eq [Proc.devRef .tc main_arg0, Proc.devRef .tc main_v1, Proc.devRef .tc main_v2] (by decide) (by decide) _
/-- The one of the argument alone. -/
theorem arg_held (c : Dev nD) (W : Valuation τ sig (Elt F)) :
    (StableHlo.held (c : Thread nD τ) argRef W : sProp 𝕄) = at_ c W main_arg0 := bigSep_singleton
/-- The two the pipeline does not move. -/
theorem off_held (c : Dev nD) (W : Valuation τ sig (Elt F)) :
    (StableHlo.held (c : Thread nD τ) offRefs W : sProp 𝕄) = iprop(at_ c W main_arg0 ∗ at_ c W main_v2) :=
  bigSep_eq_bigSepL_of_eq [Proc.devRef .tc main_arg0, Proc.devRef .tc main_v2] (by decide) (by decide) _
/-- The one it moves. -/
theorem arr_held (c : Dev nD) (W : Valuation τ sig (Elt F)) :
    (StableHlo.held (c : Thread nD τ) (Pipeline.arrRefs (τ := τ) (pcfgs (F := F) 0).spec) W : sProp 𝕄) = at_ c W main_v1 :=
  bigSep_eq_bigSepL_of_eq [Proc.devRef .tc main_v1] (by decide : Pipeline.arrRefs (τ := τ) spec0 = _) (by decide) _

/-- The kernel changes its result's buffer alone. -/
theorem V₁_ne (c : Dev nD) (b : Ref sig .tc) (h : Proc.devRef (τ := τ) .tc b ≠ Proc.devRef .tc main_v1) :
    V₁ m c (Proc.devRef .tc b) = m ((c : Thread nD τ).loc b) := Function.update_of_ne h _ _
/-- That one holds the result. -/
theorem V₁_res (c : Dev nD) : V₁ m c (Proc.devRef .tc main_v1) = res (blk m) c := Function.update_self ..

/-! ### What a device brings along -/

/-- The rights to open the kernel's own cells. -/
def shut (c : Dev nD) : sProp 𝕄 := bigSep Finset.univ fun j : Fin 6 => openTok ER (ownC j c)

/-- From the launch to the kernel: the records, the rights to open, the tokens and the credits. -/
def packed (X : Blocks F) (c : Dev nD) : sProp 𝕄 :=
  iprop(∃ K, records X K ∗ shut c ∗ atPos ER (barC c) 0 ∅ 0 ∗ tokens c
    ∗ cred (tallyAt (barC c) () 1) ∗ cred (tallyAt (ownC 4 c) () N) ∗ cred (tallyAt (ownC 5 c) () N))

/-- The kernel's own cells are opened on their counters, at zero when the kernel starts. -/
theorem open_own (X : Blocks F) (K : GSem nD τ sig → ℕ) (c : Dev nD) :
    iprop(records X K ∗ shut c ∗ zeros c) ⊢ (|={Set.univ}=> opened c : sProp 𝕄) := by
  have hone (j : Fin 6) : iprop(records X K ∗ (openTok ER (ownC j c) ∗ semVal (ownC j c) 0))
      ⊢ (|={Set.univ}=> iprop(atPos ER (ownC j c) 0 ∅ 0 ∗ reached ER (ownC j c) 0) : sProp 𝕄) := by
    iintro ⟨#HR, Ho, Hs⟩
    iapply (Rounds.cell_open ER (Rd X) (g := ownC j c) (Set.mem_univ (K (ownC j c))))
    isplitr; · iapply (rec_own X K j c); iexact HR
    isplitl [Ho] <;> iassumption
  unfold shut zeros opened
  rw [← bigSep_sep']
  exact (bigSep_with_persistent (S := Finset.univ) (R := records X K) fun j _ => hone j).trans (bigSep_fupd _ _)

/-- What a device brings along is, with the counters at zero, all the body starts from. -/
theorem unpack (X : Blocks F) (c : Dev nD) :
    iprop(packed X c ∗ Pipeline.ownSems0 osem c ∗ levAts L lv) ⊢ (|={Set.univ}=> (∃ K, ready X K c) : sProp 𝕄) := by
  rw [show (Pipeline.ownSems0 osem c : sProp 𝕄) = zeros c from rfl]
  unfold packed ready
  iintro ⟨⟨%K, #HR, Hsh, HaB, Ht, HcB, Hc4, Hc5⟩, Hz, #Hlev⟩
  imod (open_own X K c) $$ [Hsh Hz] with Hop
  · isplitr; · iexact HR
    isplitl [Hsh] <;> iassumption
  imodintro
  iexists K
  isplitr; · iexact HR
  isplitr; · iexact Hlev
  isplitl [Hop]; · iexact Hop
  isplitl [HaB]; · iexact HaB
  isplitl [Ht]; · iexact Ht
  isplitl [HcB]; · iexact HcB
  isplitl [Hc4] <;> iassumption

/-! ### The kernel's one point -/

/-- The buffers the body works in: its block of the argument and the three scratch buffers. -/
def bench (c : Dev nD) : sProp 𝕄 :=
  iprop(at_ c (V₀ m c) main_arg0 ∗ (anyAt c cc0_scratch0 ∗ anyAt c cc0_scratch1 ∗ anyAt c cc0_scratch2) ∗ ∃ r, prngReg c r)
/-- Before the point. -/
def early (c : Dev nD) : sProp 𝕄 := iprop((∃ K, ready (blk m) K c) ∗ bench m c)
/-- After it. -/
def late (c : Dev nD) : sProp 𝕄 := iprop((semVal (barC c) 0 ∗ zeros c) ∗ bench m c)

/-- The proof data of the kernel's pipeline on device `c`: it leaves the result, and pays off all the device owes. -/
def dat0 (c : Dev nD) : Dat τ (Elt F) Unit ℕ UU ℕ cfg0 c where
  A | 0 => V₀ m c (Proc.devRef .tc main_v1) | ⟨_ + 1, h⟩ => absurd h (Nat.not_lt.2 (Nat.le_add_left _ _))
  after | 0 => fun _ => res (blk m) c | ⟨_ + 1, h⟩ => absurd h (Nat.not_lt.2 (Nat.le_add_left _ _))
  Φ t := if t.val = 0 then early m c else late m c
  q _ := fullShare
  owed t := if t.val = 0 then O₀ c else 0

/-- The one admissible table of each kernel: none. -/
abbrev adm : (p : Fin 1) → (pcfgs (F := F) p).Adm := fun p => (cfgs p).toPCfg_adm
/-- The proof data of every pipeline. -/
def pdats : (p : Fin 1) → (c : Dev nD) → Dat τ (Elt F) Unit ℕ UU ℕ (Pipeline.pin (pcfgs (F := F)) adm p) c := fun _ => dat0 m

/-- All is owed before the point. -/
theorem owed_early (c : Dev nD) : (dat0 m c).owed t0_0.castSucc = O₀ c := by
  show (if (t0_0.castSucc : Fin (cfg0.N + 1)).val = 0 then O₀ c else 0) = O₀ c
  exact if_pos rfl
/-- Nothing is owed after it. -/
theorem owed_late (c : Dev nD) : (dat0 m c).owed t0_0.succ = 0 := by
  show (if (t0_0.succ : Fin (cfg0.N + 1)).val = 0 then O₀ c else 0) = 0
  exact if_neg (Nat.succ_ne_zero _)

/-- Owing `O` at some waits is what the pipeline's account says at a point where `O` is owed. -/
theorem account_in (c : Dev nD) (t : Fin (cfg0.N + 1)) (O : CellTallies nD τ sig Unit) (h : (dat0 m c).owed t = O) :
    (ow c O : sProp 𝕄) ⊢ (dat0 m c).owesAt () t := by
  unfold ow Dat.owesAt Pipeline.owesWithin Dat.bound
  rw [h]
  iintro ⟨%W, HO⟩
  iexists W
  isplitr; · ipureintro; exact fun _ _ => Or.inl trivial
  iexact HO
/-- And back. -/
theorem account_out (c : Dev nD) (t : Fin (cfg0.N + 1)) (O : CellTallies nD τ sig Unit) (h : (dat0 m c).owed t = O) :
    (dat0 m c).owesAt () t ⊢ (ow c O : sProp 𝕄) := by
  unfold ow Dat.owesAt Pipeline.owesWithin
  rw [h]
  iintro ⟨%W, -, HO⟩
  iexists W
  iexact HO

/-- What the pipeline asks of the body at its one point. -/
theorem body0 (c : Dev nD) : BodyObligation (dat0 m c) defs₀ 𝒱₀ () Set.univ := fun t => by
  obtain rfl := fin_N0 t
  rw [bigSep_W0, bigSep_W0]
  show iprop(early m c ∗ (dat0 m c).owesAt () t0_0.castSucc ∗ ∃ d, owns (c : Thread nD τ) (st0_0 t0_0) fullShare ((dat0 m c).before 0 t0_0 d))
    ⊢ runs c (fun _ => iprop(late m c ∗ (dat0 m c).owesAt () t0_0.succ ∗ owns (c : Thread nD τ) (st0_0 t0_0) fullShare (res (blk m) c))) (bodyAt0 t0_0)
  rw [show bodyAt0 (F := F) t0_0 = steps (st0_0 t0_0) from body_eq_steps _ _]
  unfold early late bench
  iintro ⟨⟨⟨%K, Hrd⟩, Hx, Hsc, Hp⟩, HO, %d, Hst⟩
  unfold owns
  icases Hst with ⟨%f, -, Hst⟩
  iapply (body_run (blk m) K c _ (st0_0 t0_0) f)
  isplitl [Hrd Hx Hsc HO Hst]
  · isplitl [Hrd]; · iexact Hrd
    isplitl [Hx]; · iexact Hx
    isplitl [Hsc]; · iexact Hsc
    isplitl [Hst]; · iexact Hst
    iapply (account_out m c _ _ (owed_early m c)); iexact HO
  iintro ⟨HB, Hz, Hx, Hsc, Hst, HO⟩
  isplitl [HB Hz Hx Hsc Hp]
  · isplitl [HB Hz]; · isplitl [HB] <;> iassumption
    isplitl [Hx]; · iexact Hx
    isplitl [Hsc] <;> iassumption
  isplitl [HO]; · iapply (account_in m c _ _ (owed_late m c)); iexact HO
  unfold owns
  iexact Hst

/-! ### The region -/

/-- What is owed at any point is owed above the level of the pipeline's own waits. -/
theorem owed_above (c : Dev nD) (t : Fin (cfg0.N + 1)) (g : GSem nD τ sig) (i : Unit) (h : 0 < (dat0 m c).owed t g i) :
    i ∈ L g ∧ 0 < lv g i := by
  have e : (dat0 m c).owed t = if t.val = 0 then O₀ c else 0 := rfl
  rw [e] at h
  split at h
  · rcases O₀_pos h with (rfl | rfl) | rfl
    · exact ⟨by rw [L_tc]; exact Finset.mem_singleton_self _, (by decide : 0 < lvS (osem 5))⟩
    · exact ⟨by rw [L_tc]; exact Finset.mem_singleton_self _, (by decide : 0 < lvS (osem 4))⟩
    · exact ⟨by rw [L_tc]; exact Finset.mem_singleton_self _, Nat.one_pos⟩
  · exact absurd h (Nat.lt_irrefl 0)

/-- The pipeline's own waits are at the lowest level. -/
theorem stage_low : ∀ (w : Fin 1) (s : Fin (spec0 w).nbuf), lvS (.dma ((spec0 w).sem s)) ≤ 0 := by decide

/-- Into the region. -/
theorem enter (c : Dev nD) :
    iprop(Pipeline.scopedRest spec0 c ∗ (∃ r, prngReg c r) ∗ StableHlo.held (c : Thread nD τ) argRef (V₀ m c) ∗ ∃ K, ready (blk m) K c)
      ⊢ (early m c : sProp 𝕄) := by
  rw [scopedRest0_eq, arg_held]
  unfold early bench
  iintro ⟨Hsc, Hp, Hx, Hrd⟩
  isplitl [Hrd]; · iexact Hrd
  isplitl [Hx]; · iexact Hx
  isplitl [Hsc] <;> iassumption
/-- Out of it. -/
theorem leave (c : Dev nD) :
    (late m c : sProp 𝕄) ⊢ iprop(Pipeline.scopedRest spec0 c ∗ (∃ r, prngReg c r) ∗ StableHlo.held (c : Thread nD τ) argRef (V₁ m c)
      ∗ Pipeline.ownSems0 osem c ∗ semVal (barC c) 0) := by
  rw [scopedRest0_eq, arg_held, show (at_ c (V₁ m c) main_arg0 : sProp 𝕄) = at_ c (V₀ m c) main_arg0 from
    congrArg (fun v => (((c : Thread nD τ).loc main_arg0) ↦{fullShare} v : sProp 𝕄)) (V₁_ne m c main_arg0 (by decide)),
    show (Pipeline.ownSems0 osem c : sProp 𝕄) = zeros c from rfl]
  unfold late bench
  iintro ⟨⟨HB, Hz⟩, Hx, Hsc, Hp⟩
  isplitl [Hsc]; · iexact Hsc
  isplitl [Hp]; · iexact Hp
  isplitl [Hx]; · iexact Hx
  isplitl [Hz] <;> iassumption

/-- The result's array at the end of the pipeline. -/
theorem arr_last (c : Dev nD) : (dat0 m c).arrAt 0 cfg0.N = res (blk m) c :=
  (dat0 m c).arrAt_eq_of_after_last 0 t0_0 (by decide +kernel) _ (fun _ => rfl)

set_option backward.isDefEq.respectTransparency.types false in
/-- The kernel's call as a region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    argRef offRefs (by decide) launch0.toP rfl (fun c => (body0 m c).loose)
    (fun _ => 0) O₀ (fun c => (owed_early m c).trans (zero_add _).symm) (owed_late m) (fun _ => rfl)
    (fun _ => fun | 0 => rfl | ⟨_ + 1, h⟩ => absurd h (Nat.not_lt.2 (Nat.le_add_left _ _)))
    (V₀ m) (V₁ m)
    (fun c b hb => Function.update_of_ne (fun h => absurd (h ▸ hb) (by decide)) _ _)
    (packed (blk m)) (fun c => semVal (barC c) 0) (fun c => iprop(∃ K, ready (blk m) K c)) (fun c => semVal (barC c) 0)
    (unpack (blk m)) (enter m) (leave m)
    (fun c => by iintro H; imodintro; iexact H)
    (fun _ => 0)
    ⟨fun c w s => by rw [L_tc]; exact Finset.mem_singleton_self _,
      fun _ w s => stage_low w s,
      fun c t g i h => owed_above m c t g i h⟩
    (fun _ => iprop(emp))
    (fun _ => fun | 0 => rfl | ⟨_ + 1, h⟩ => absurd h (Nat.not_lt.2 (Nat.le_add_left _ _)))
    (fun c => fun | 0 => (arr_last m c).trans (V₁_res m c).symm | ⟨_ + 1, h⟩ => absurd h (Nat.not_lt.2 (Nat.le_add_left _ _)))

end Cert.KernelIdeal.Exch

end
-- ==== Proof.Run.lean ====
module

public import proofs.«01_k».proof.Proof.Region
public import Idealize.ShloMosaic.Lib.Quiescent

/-! The program's run on the mesh: the launch dealt out among the devices, the kernel and the reshape after it, and what
    every end state holds. -/

@[expose] public section

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ### The two segments -/

/-- The reshape touches buffers that live outside the kernel alone. -/
theorem tail_bufs : ∀ op ∈ (hostOps1 : List (HloOp τ sig (Elt F))), op.bufs ⊆ bufs := fun op h => by
  obtain rfl := List.mem_singleton.mp h
  rw [StableHlo.reshape_bufs]
  decide
/-- It makes no new buffer. -/
theorem tail_fresh : ∀ op ∈ (hostOps1 : List (HloOp τ sig (Elt F))), op.fresh = ∅ := fun op h => by
  obtain rfl := List.mem_singleton.mp h
  rfl

/-- What the reshape leaves alone: the barrier's counter, and that nothing is owed. -/
def aside (c : Dev nD) : sProp 𝕄 := iprop(semVal (barC c) 0 ∗ ow c 0)

/-- The reshape as a segment. -/
def tail : Pipeline.HostSeg (Name := ℕ) (U := UU) (pcfgs (F := F)) defs₀ 𝒱₀ L lv :=
  Pipeline.HostSeg.ofOps _ _ _ _ _ bufs hostOps1 tail_bufs tail_fresh (V₁ m) aside

/-- The program's segments. -/
def segs : List (Pipeline.Seg (pcfgs (F := F)) adm (pdats m) () defs₀ 𝒱₀ L lv) := [.region (reg0 m), .host (tail m)]

/-- What a device holds at the program's start. -/
def atStart (c : Dev nD) : sProp 𝕄 :=
  iprop(StableHlo.held (c : Thread nD τ) bufs (V₀ m c) ∗ (∃ r, prngReg c r) ∗ packed (blk m) c ∗ ow c (O₀ c))
/-- What it holds at its end, beside owing nothing. -/
def atEnd (c : Dev nD) : sProp 𝕄 := iprop(StableHlo.held (c : Thread nD τ) bufs (V₂ m c) ∗ semVal (barC c) 0)

/-- From the start into the kernel. -/
theorem into_kernel (c : Dev nD) : (atStart m c : sProp 𝕄) ⊢ (reg0 m).pre c := by
  show _ ⊢ iprop(StableHlo.held (c : Thread nD τ) (Pipeline.arrRefs (τ := τ) (pcfgs (F := F) 0).spec) (V₀ m c) ∗ (∃ r, prngReg c r)
    ∗ (StableHlo.held (c : Thread nD τ) offRefs (V₀ m c) ∗ emp) ∗ packed (blk m) c ∗ ow c (0 + O₀ c))
  rw [zero_add, arr_held, off_held]
  unfold atStart
  rw [bufs_held]
  iintro ⟨⟨Hx, Hv, Hy⟩, Hp, Hk, HO⟩
  isplitl [Hv]; · iexact Hv
  isplitl [Hp]; · iexact Hp
  isplitl [Hx Hy]
  · isplitl [Hx Hy]
    · isplitl [Hx] <;> iassumption
    iempintro
  isplitl [Hk] <;> iassumption

/-- From the kernel to the reshape. -/
theorem past_kernel (c : Dev nD) : (reg0 m).post c ⊢ iprop(StableHlo.held (c : Thread nD τ) bufs (V₁ m c) ∗ aside c) := by
  show iprop(StableHlo.held (c : Thread nD τ) (Pipeline.arrRefs (τ := τ) (pcfgs (F := F) 0).spec) (V₁ m c) ∗ (∃ r, prngReg c r)
    ∗ (StableHlo.held (c : Thread nD τ) offRefs (V₁ m c) ∗ emp) ∗ semVal (barC c) 0 ∗ ow c 0) ⊢ _
  rw [arr_held, off_held, bufs_held]
  unfold aside
  iintro ⟨Hv, -, ⟨⟨Hx, Hy⟩, -⟩, HB, HO⟩
  isplitl [Hv Hx Hy]
  · isplitl [Hx]; · iexact Hx
    isplitl [Hv] <;> iassumption
  isplitl [HB] <;> iassumption

/-! ### The launch's ghost state -/

/-- No barrier cell is an own cell. -/
theorem cells_apart : Disjoint (barCells : Finset (GSem nD τ sig)) ownCells := by
  rw [Finset.disjoint_left]
  rintro g h₁ h₂
  obtain ⟨c, -, rfl⟩ := Finset.mem_map.mp h₁
  obtain ⟨cj, -, h⟩ := Finset.mem_map.mp h₂
  exact absurd (congrArg Prod.snd h) (by rintro ⟨⟩)

/-- A cell's one token. -/
def tokEmb : GSem nD τ sig ↪ GSem nD τ sig × ℕ × Unit := ⟨fun g => (g, 0, ()), fun _ _ h => congrArg Prod.fst h⟩
/-- All the tokens: one of every cell. -/
abbrev allToks : Finset (GSem nD τ sig × ℕ × Unit) := (barCells ∪ ownCells).map tokEmb

/-- The exchange's launch element. -/
abbrev exch₀ : UR sig nD τ := launchOf barCells ownCells allToks
/-- The launch element: the pipeline's and the exchange's. -/
def u₀ : UU :=
  (initOf (Pipeline.cells (Pipeline.pin (pcfgs (F := F)) adm) cellOf_inj) (Pipeline.launchToks (Pipeline.pin (pcfgs (F := F)) adm) cellOf_inj), exch₀)

/-- The exchange's launch element waits on device 0 until the devices' holdings are brought together. -/
def held₀ (c : Dev nD) : sProp 𝕄 := if c = 0 then BI.own (ER exch₀) else iprop(emp)

/-- The devices' shares of it are it. -/
theorem held₀_all : bigSep Finset.univ held₀ = (BI.own (ER exch₀) : sProp 𝕄) := by
  rw [bigSep_univ_at _ (0 : Dev nD), bigSep_congr (s := Finset.univ.erase (0 : Dev nD)) (Φ := held₀) (Ψ := fun _ => (BI.emp : sProp 𝕄))
    fun c hc => if_neg (Finset.ne_of_mem_erase hc), bigSep_emp_const]
  exact (BI.equiv_iff.mp sep_emp).trans (if_pos rfl)

/-- The tokens of device `c`'s own cells. -/
def cellToks (c : Dev nD) : sProp 𝕄 :=
  iprop(dutyTok ER (barC c) 0 () ∗ dutyTok ER (ownC 0 c) 0 () ∗ dutyTok ER (ownC 1 c) 0 () ∗ dutyTok ER (ownC 2 c) 0 ()
    ∗ dutyTok ER (ownC 3 c) 0 () ∗ dutyTok ER (ownC 4 c) 0 () ∗ dutyTok ER (ownC 5 c) 0 ())

/-- All the tokens, by device. -/
theorem toks_by_device : bigSep allToks (fun x => (dutyTok ER x.1 x.2.1 x.2.2 : sProp 𝕄)) = bigSep Finset.univ fun c => cellToks c := by
  unfold allToks
  rw [bigSep_map, bigSep_union cells_apart, bigSep_map, bigSep_map, bigSep_univ_prod]
  show iprop((bigSep Finset.univ fun c : Dev nD => (dutyTok ER (barC c) 0 () : sProp 𝕄))
    ∗ bigSep Finset.univ fun c : Dev nD => bigSep Finset.univ fun j : Fin 6 => dutyTok ER (ownC j c) 0 ()) = _
  rw [← bigSep_sep']
  exact bigSep_congr fun c _ => by rw [six]; rfl

/-- Every device hands its partner the tokens of its barrier and its receipts. -/
theorem toks_swapped : (bigSep Finset.univ fun c => (cellToks c : sProp 𝕄)) = bigSep Finset.univ fun c => tokens c := by
  unfold cellToks tokens
  simp only [bigSep_sep']
  rw [bigSep_univ_equiv swap (fun c : Dev nD => (dutyTok ER (barC c) 0 () : sProp 𝕄)),
    bigSep_univ_equiv swap (fun c : Dev nD => (dutyTok ER (ownC 4 c) 0 () : sProp 𝕄)),
    bigSep_univ_equiv swap (fun c : Dev nD => (dutyTok ER (ownC 5 c) 0 () : sProp 𝕄))]
  rfl

/-- The launch's credit of a device: what its partner owes it. -/
theorem credits (c : Dev nD) : (Pipeline.launchCred O₀ c : sProp 𝕄)
    ⊢ iprop(cred (tallyAt (barC c) () 1) ∗ cred (tallyAt (ownC 4 c) () N) ∗ cred (tallyAt (ownC 5 c) () N)) := by
  have h (sm : SemLoc sig) (n : ℕ) : (Pipeline.launchCred (fun d => tallyAt ((pr d : Thread nD τ), sm) () n) c : sProp 𝕄)
      ⊢ cred (tallyAt ((c : Thread nD τ), sm) () n) := Pipeline.launchCred_tallyAt sm pr pr pr_pr pr_pr () n c
  rw [show (Pipeline.launchCred O₀ c : sProp 𝕄) = iprop((Pipeline.launchCred O₁ c ∗ Pipeline.launchCred (fun d => tallyAt (ownC 4 (pr d)) () N) c)
      ∗ Pipeline.launchCred (fun d => tallyAt (barC (pr d)) () 1) c) from by
    rw [← Pipeline.launchCred_add, ← Pipeline.launchCred_add]; rfl]
  iintro ⟨⟨H5, H4⟩, HB⟩
  isplitl [HB]; · iapply (h (.reg barrier0) 1); iexact HB
  isplitl [H4]; · iapply (h (osem 4) N); iexact H4
  iapply (h (osem 5) N); iexact H5

/-- The one semaphore outside the kernel is the barrier's. -/
theorem sems_held (c : Dev nD) : (unscopedSems0 c : sProp 𝕄) = semVal (barC c) 0 := by
  unfold unscopedSems0
  rw [show (Finset.univ.filter fun sm : SemLoc sig => ¬ sm.isScoped .tc) = {SemLoc.reg barrier0} from by decide, bigSep_singleton]
/-- And any that is outside is it. -/
theorem sems_bar : ∀ sm : SemLoc sig, sm.isScoped .tc = false → sm = .reg barrier0 := by decide

/-- Of the launch, what is a device's from the start and needs no dealing. -/
def own₀ (c : Dev nD) : sProp 𝕄 :=
  iprop(StableHlo.held (c : Thread nD τ) bufs (V₀ m c) ∗ (∃ r, prngReg c r)
    ∗ (cred (tallyAt (barC c) () 1) ∗ cred (tallyAt (ownC 4 c) () N) ∗ cred (tallyAt (ownC 5 c) () N)) ∗ ow c (O₀ c))
/-- What is dealt to it. -/
def dealt (c : Dev nD) : sProp 𝕄 := iprop(atPos ER (barC c) 0 ∅ 0 ∗ shut c ∗ tokens c)

/-- The two together, with the records, are the device's start. -/
theorem start_of (K : GSem nD τ sig → ℕ) (c : Dev nD) : iprop(records (blk m) K ∗ (dealt c ∗ own₀ m c)) ⊢ (atStart m c : sProp 𝕄) := by
  unfold dealt own₀ atStart packed
  iintro ⟨HR, ⟨HaB, Hsh, Ht⟩, Hh, Hp, ⟨HcB, Hc4, Hc5⟩, HO⟩
  isplitl [Hh]; · iexact Hh
  isplitl [Hp]; · iexact Hp
  isplitr [HO]
  · iexists K
    isplitl [HR]; · iexact HR
    isplitl [Hsh]; · iexact Hsh
    isplitl [HaB]; · iexact HaB
    isplitl [Ht]; · iexact Ht
    isplitl [HcB]; · iexact HcB
    isplitl [Hc4] <;> iassumption
  iexact HO

/-- One device's launch, sorted. -/
theorem sorted (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ held₀ c)
      ⊢ (iprop(own₀ m c ∗ semVal (barC c) 0 ∗ held₀ c) : sProp 𝕄) := by
  rw [show unscopedBufs c (fun b => m ((c : Thread nD τ).loc b)) = (StableHlo.held (c : Thread nD τ) bufs (V₀ m c) : sProp 𝕄) from
    unscoped_held c (V₀ m c), sems_held]
  unfold own₀ ow
  iintro ⟨Hh, HB, HO, Hc, Hp, HG⟩
  isplitl [Hh HO Hc Hp]
  · isplitl [Hh]; · iexact Hh
    isplitl [Hp]; · iexists (ρ c); iexact Hp
    isplitl [Hc]; · iapply (credits c); iexact Hc
    iexists ∅; iexact HO
  isplitl [HB] <;> iassumption

/-- Something of every barrier cell is something of every device. -/
theorem by_bar (Φ : GSem nD τ sig → sProp 𝕄) : bigSep barCells Φ = bigSep Finset.univ fun c => Φ (barC c) := bigSep_map barEmb
/-- The rights to open, by device. -/
theorem by_own : bigSep ownCells (fun g => (openTok ER g : sProp 𝕄)) = bigSep Finset.univ fun c => shut c := by
  rw [bigSep_map, bigSep_univ_prod]; rfl

/-- The launch: every device gets its start. -/
theorem launched :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ held₀ c)) ∗ levAts L lv)
      ⊢ (|={Set.univ}=> bigSep Finset.univ (atStart m) : sProp 𝕄) := by
  refine (sep_mono_left (bigSep_mono fun c _ => sorted m ρ c)).trans ?_
  rw [bigSep_sep', bigSep_sep', held₀_all, ← by_bar fun g => semVal g 0]
  iintro ⟨⟨Hown, HB, Hu⟩, -⟩
  imod (Rounds.fund_launch ER (Rd (blk m)) cells_apart (fun _ _ h => h) allToks) $$ [HB Hu] with ⟨%K, -, #Hi, #Hr, HaB, Hsh, Ht⟩
  · isplitl [HB] <;> iassumption
  imodintro
  iapply (bigSep_with_persistent (R := records (blk m) K) (Φ := fun c => iprop(dealt c ∗ own₀ m c)) fun c _ => start_of m K c)
  isplitr
  · unfold records
    isplitr; · iexact Hi
    iexact Hr
  iapply (Entails.of_eq (bigSep_sep' (s := Finset.univ) (Φ := fun c => dealt (F := F) c) (Ψ := own₀ m)).symm)
  isplitr [Hown]
  · unfold dealt
    iapply (Entails.of_eq (show iprop((bigSep barCells fun g => atPos ER g 0 ∅ 0) ∗ (bigSep ownCells fun g => openTok ER g)
        ∗ bigSep allToks fun x => (dutyTok ER x.1 x.2.1 x.2.2 : sProp 𝕄))
      = bigSep Finset.univ fun c : Dev nD => iprop(atPos ER (barC c) 0 ∅ 0 ∗ shut c ∗ tokens c) from by
        rw [bigSep_sep', bigSep_sep', by_bar, by_own, toks_by_device, toks_swapped]))
    isplitl [HaB]; · iexact HaB
    isplitl [Hsh] <;> iassumption
  iexact Hown

/-! ### The run -/

/-- The program's result on device `c`: the kernel's, one element to a row. -/
def out (X : Blocks F) (c : Dev nD) : S1536x1.Idx → Elt F .f32 := shapeCast S1536x1 (res X c) shapeCasts_S12x128_S1536x1

/-- The argument's buffer is as it was. -/
theorem V₂_arg (c : Dev nD) : V₂ m c (Proc.devRef .tc main_arg0) = blk m c := by
  unfold V₂
  rw [StableHlo.after_cons, StableHlo.after_nil, StableHlo.reshape_result_ne _ _ _ _ _ _ _ (by decide)]
  exact V₁_ne m c main_arg0 (by decide)
/-- The result's buffer holds the result. -/
theorem V₂_out (c : Dev nD) : V₂ m c (Proc.devRef .tc main_v2) = out (blk m) c := by
  unfold V₂
  rw [StableHlo.after_cons, StableHlo.after_nil, StableHlo.reshape_result, V₁_res]
  rfl

set_option backward.isDefEq.respectTransparency.types false in
/-- Every run of the program ends, with the argument as it was, the result in its buffer, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = out (blk m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (tail m) (reg0 m) rfl c]; exact .rfl)
    (by simp only [segs, Pipeline.Seg.pipes_host, Pipeline.Seg.pipes_region, Pipeline.Seg.pipes_nil]; decide)
    (O₀ := O₀) (hL := L_of_ne) (G := held₀) (u₀ := u₀ (F := F))
    (hu₀ := by
      rw [held₀_all]
      unfold u₀
      iintro Hu
      ihave H := (ownU_pair _ _) $$ Hu
      imodintro
      iexact H)
    (T₀ := atStart m) (Tₙ := atEnd m)
    (hch := by
      refine ⟨into_kernel m, past_kernel m, fun c => ?_⟩
      show iprop(StableHlo.held (c : Thread nD τ) bufs (V₂ m c) ∗ aside c) ⊢ iprop(atEnd m c ∗ ow c 0)
      unfold aside atEnd
      iintro ⟨Hh, HB, HO⟩
      isplitr [HO]
      · isplitl [Hh] <;> iassumption
      iexact HO)
    (hinit := launched m ρ)
    (QY := fun c s => (s.mem ((c : Thread nD τ).loc main_arg0) = blk m c ∧ s.mem ((c : Thread nD τ).loc main_v2) = out (blk m) c)
      ∧ s.sem (barC c) = 0)
    (hfin := fun c s' => by
      unfold atEnd
      rw [bufs_held, ← V₂_arg, ← V₂_out]
      iintro ⟨⟨⟨Hx, -, Hy⟩, HB⟩, HSI⟩
      icombine HSI Hx gives %hx
      icombine HSI Hy gives %hy
      icombine HSI HB gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1, sem_eq_zero hs fun c sm hsm => by
      obtain rfl := sems_bar sm hsm
      exact (h c).2⟩)

end Cert.KernelIdeal.Exch

end
-- ==== Proof.Value.lean ====
module

public import proofs.«01_k».proof.Proof.Run
public import proofs.«01_k».proof.Proof.Gen.ReferenceIdeal.Run
public import Idealize.ShloMosaic.Lib.Pointwise

/-! What the mesh computes over the extended reals: each device's result holds, at row `r`, the sum of row `r` of its own
    block and of its partner's; put together, that is the sum of a whole row of the array. -/

@[expose] public section

noncomputable section

namespace Cert.KernelIdeal.Exch

open Idealize.ShloMosaic Idealize.ShloMosaic.TcCoe
open Cert.KernelIdeal.Gen

/-! ### A device's rows -/

variable (X : Blocks (F := Ideal))

/-- The sum of row `r` of device `c`'s block. -/
def rowSum (c : Dev nD) (r : Fin 1536) : EReal := ∑ k : Fin 768, X c (ix2 r k)

/-- The upper half of a block is its first 768 rows. -/
theorem half_upper (c : Dev nD) (a b : Fin 768) : half X 0 c (ix2 a b) = X c (ix2 ⟨a.val, by omega⟩ b) := by
  unfold half
  rw [View.read_apply]
  show X c _ = X c _
  congr 1
  funext d
  match d with
  | 0 => exact Fin.ext (by show 0 + 1 * a.val = a.val; omega)
  | 1 => exact Fin.ext (by show 0 + 1 * b.val = b.val; omega)

/-- The lower half of a block is its last 768 rows. -/
theorem half_lower (c : Dev nD) (a b : Fin 768) : half X 1 c (ix2 a b) = X c (ix2 ⟨768 + a.val, by omega⟩ b) := by
  unfold half
  rw [View.read_apply]
  show X c _ = X c _
  congr 1
  funext d
  match d with
  | 0 => exact Fin.ext (by show 768 + 1 * a.val = 768 + a.val; omega)
  | 1 => exact Fin.ext (by show 0 + 1 * b.val = b.val; omega)

/-- A slab of row sums, read at a lane. -/
theorem pay2_apply (v : Vec Ideal S768x768 .f32) (a : Fin 6) (b : Fin 128) :
    k0_pay2 v (ix3 0 a b) = ∑ k : Fin 768, v (ix2 ⟨a.val * 128 + b.val, by omega⟩ k) := by
  unfold k0_pay2
  pointwise

/-- The same of the second slab. -/
theorem pay3_apply (v : Vec Ideal S768x768 .f32) (a : Fin 6) (b : Fin 128) :
    k0_pay3 v (ix3 0 a b) = ∑ k : Fin 768, v (ix2 ⟨a.val * 128 + b.val, by omega⟩ k) := by
  unfold k0_pay3
  pointwise

/-- The upper half of the result adds the two upper slabs. -/
theorem pay4_apply (v w : Vec Ideal S1x6x128 .f32) (a : Fin 6) (b : Fin 128) :
    k0_pay4 v w (ix2 a b) = v (ix3 0 a b) + w (ix3 0 a b) := by
  unfold k0_pay4
  pointwise

/-- The lower half of the result adds the two lower slabs. -/
theorem pay1_apply (v w : Vec Ideal S1x6x128 .f32) (a : Fin 6) (b : Fin 128) :
    k0_pay1 (k0_pay5 v) w (ix2 a b) = v (ix3 0 a b) + w (ix3 0 a b) := by
  unfold k0_pay1 k0_pay5
  pointwise

/-- The first slab holds the sums of the first 768 rows. -/
theorem part_upper (c : Dev nD) (a : Fin 6) (b : Fin 128) :
    part X c 0 (ix3 0 a b) = rowSum X c ⟨a.val * 128 + b.val, by omega⟩ := by
  show k0_pay2 (half X 0 c) (ix3 0 a b) = _
  rw [pay2_apply]
  exact Finset.sum_congr rfl fun k _ => half_upper X c _ k

/-- The second slab holds the sums of the last 768 rows. -/
theorem part_lower (c : Dev nD) (a : Fin 6) (b : Fin 128) :
    part X c 1 (ix3 0 a b) = rowSum X c ⟨768 + (a.val * 128 + b.val), by omega⟩ := by
  show k0_pay3 (half X 1 c) (ix3 0 a b) = _
  rw [pay3_apply]
  exact Finset.sum_congr rfl fun k _ => half_lower X c _ k

/-- Where row `r` of the result is found before it is put in one column. -/
theorem out_eq (c : Dev nD) (r : Fin 1536) :
    out X c (ix2 r 0) = res X c (ix2 ⟨r.val / 128, by omega⟩ ⟨r.val % 128, by omega⟩) := by
  unfold out
  pointwise

/-- Row `r` of device `c`'s result: its own row's sum and its partner's. -/
theorem out_apply (c : Dev nD) (r : Fin 1536) : out X c (ix2 r 0) = rowSum X c r + rowSum X (pr c) r := by
  rw [out_eq]
  unfold res joined
  by_cases h : r.val / 128 < 6
  · rw [if_pos (show ((ix2 (⟨r.val / 128, by omega⟩ : Fin 12) (⟨r.val % 128, by omega⟩ : Fin 128) : S12x128.Idx) 0).val < 6 from h)]
    have e : down (ix2 (⟨r.val / 128, by omega⟩ : Fin 12) (⟨r.val % 128, by omega⟩ : Fin 128))
        = ix2 (⟨r.val / 128, h⟩ : Fin 6) (⟨r.val % 128, by omega⟩ : Fin 128) := by
      funext d
      match d with
      | 0 => exact Fin.ext (show r.val / 128 % 6 = r.val / 128 by omega)
      | 1 => rfl
    have q : ∀ p : r.val / 128 * 128 + r.val % 128 < 1536, (⟨r.val / 128 * 128 + r.val % 128, p⟩ : Fin 1536) = r :=
      fun p => Fin.ext (show r.val / 128 * 128 + r.val % 128 = r.val by omega)
    rw [e, pay4_apply, part_upper, part_upper, q]
  · rw [if_neg (show ¬ ((ix2 (⟨r.val / 128, by omega⟩ : Fin 12) (⟨r.val % 128, by omega⟩ : Fin 128) : S12x128.Idx) 0).val < 6 from h)]
    have e : down (ix2 (⟨r.val / 128, by omega⟩ : Fin 12) (⟨r.val % 128, by omega⟩ : Fin 128))
        = ix2 (⟨r.val / 128 - 6, by omega⟩ : Fin 6) (⟨r.val % 128, by omega⟩ : Fin 128) := by
      funext d
      match d with
      | 0 => exact Fin.ext (show r.val / 128 % 6 = r.val / 128 - 6 by omega)
      | 1 => rfl
    have q : ∀ p : 768 + ((r.val / 128 - 6) * 128 + r.val % 128) < 1536,
        (⟨768 + ((r.val / 128 - 6) * 128 + r.val % 128), p⟩ : Fin 1536) = r :=
      fun p => Fin.ext (show 768 + ((r.val / 128 - 6) * 128 + r.val % 128) = r.val by omega)
    rw [e, pay1_apply, part_lower, part_lower, q]

/-! ### The whole array -/

/-- The reference's column: the sum of each row of the array. -/
def total (A : FVec Ideal Cert.ReferenceIdeal.S3072x1536 .f32) : FVec Ideal Cert.ReferenceIdeal.S3072x1 .f32 :=
  broadcastInDim Cert.ReferenceIdeal.S3072x1 ![0] Cert.ReferenceIdeal.Gen.bcast_S3072_S3072x1_0
    (Host.reduceAdd A (constant (F := Ideal) Cert.ReferenceIdeal.S_ .f32 0x00000000#32)
      Cert.ReferenceIdeal.Gen.reducesTo_S3072x1536_S3072_d1 Cert.ReferenceIdeal.Gen.h_S_)

variable (A : FVec Ideal Cert.ReferenceIdeal.S3072x1536 .f32)

/-- The reference's column at a row. -/
theorem total_apply (R : Fin 3072) : total A (ix2 R 0) = ∑ k : Fin 1536, (A (ix2 R k) : EReal) := by
  unfold total
  pointwise

/-- A device's first coordinate, as the layout counts it. -/
theorem lin_x : ∀ c : Dev nD, Layout.meshLin [2, 2] c.val [0] = c.val / 2 := by decide
/-- A device's second coordinate, as the layout counts it. -/
theorem lin_y : ∀ c : Dev nD, Layout.meshLin [2, 2] c.val [1] = c.val % 2 := by decide

/-- A device's block of the array, at an element. -/
theorem block_apply (c : Dev nD) (r : Fin 1536) (k : Fin 768) :
    (Layout.blockN ⟨2, ![1536, 768]⟩ ⟨2, ![3072, 1536]⟩ (Layout.meshBlock [2, 2] ![[0], [1]] c) A) (ix2 r k)
      = A (ix2 ⟨c.val / 2 * 1536 + r.val, by have : c.val < 4 := c.isLt; omega⟩ ⟨c.val % 2 * 768 + k.val, by omega⟩) := by
  show A _ = A _
  congr 1
  funext d
  match d with
  | 0 => exact Fin.ext (congrArg (· * 1536 + r.val) (lin_x c))
  | 1 => exact Fin.ext (congrArg (· * 768 + k.val) (lin_y c))

/-- A device's rows of a column, at an element. -/
theorem column_apply (v : FVec Ideal Cert.ReferenceIdeal.S3072x1 .f32) (c : Dev nD) (r : Fin 1536) :
    (Layout.blockN ⟨2, ![1536, 1]⟩ ⟨2, ![3072, 1]⟩ (Layout.meshBlock [2, 2] ![[0], []] c) v) (ix2 r 0)
      = v (ix2 ⟨c.val / 2 * 1536 + r.val, by have : c.val < 4 := c.isLt; omega⟩ 0) := by
  show v _ = v _
  congr 1
  funext d
  match d with
  | 0 => exact Fin.ext (congrArg (· * 1536 + r.val) (lin_x c))
  | 1 => rfl

/-- A row of the array is a row of the left block and a row of the right one. -/
theorem row_split (R : Fin 3072) : ∑ k : Fin 1536, (A (ix2 R k) : EReal)
    = ∑ k : Fin 768, (A (ix2 R ⟨0 * 768 + k.val, by omega⟩) : EReal) + ∑ k : Fin 768, (A (ix2 R ⟨1 * 768 + k.val, by omega⟩) : EReal) := by
  refine (Fin.sum_univ_add (a := 768) (b := 768) (fun k : Fin (768 + 768) => (A (ix2 R k) : EReal))).trans ?_
  refine congrArg₂ (· + ·) (Finset.sum_congr rfl fun k _ => congrArg (fun q => A (ix2 R q)) (Fin.ext ?_))
    (Finset.sum_congr rfl fun k _ => congrArg (fun q => A (ix2 R q)) (Fin.ext ?_))
  · show k.val = 0 * 768 + k.val
    omega
  · show 768 + k.val = 1 * 768 + k.val
    omega

/-- Where every device holds its block of the array, the results are the rows of the reference's column. -/
theorem out_total (hX : ∀ c : Dev nD,
      X c = Layout.blockN ⟨2, ![1536, 768]⟩ ⟨2, ![3072, 1536]⟩ (Layout.meshBlock [2, 2] ![[0], [1]] c) A) (c : Dev nD) :
    out X c = Layout.blockN ⟨2, ![1536, 1]⟩ ⟨2, ![3072, 1]⟩ (Layout.meshBlock [2, 2] ![[0], []] c) (total A) := by
  have sums : ∀ (d : Dev nD) (r : Fin 1536) (R : Fin 3072) (y : Fin 2) (_ : R.val = d.val / 2 * 1536 + r.val) (_ : d.val % 2 = y.val),
      rowSum X d r = ∑ k : Fin 768, (A (ix2 R ⟨y.val * 768 + k.val, by omega⟩) : EReal) := by
    intro d r R y hR hy
    unfold rowSum
    refine Finset.sum_congr rfl fun k _ => ?_
    rw [hX d, block_apply]
    exact congrArg₂ (fun p q => A (ix2 p q)) (Fin.ext hR.symm) (Fin.ext (congrArg (· * 768 + k.val) hy))
  funext i
  obtain ⟨r, rfl⟩ : ∃ r : Fin 1536, i = ix2 r 0 := ⟨i 0, by
    rw [eq_ix2 i]
    congr 1
    exact Fin.fin_one_eq_zero _⟩
  rw [column_apply, total_apply, row_split, out_apply]
  have hp : (pr c).val = 2 * (c.val / 2) + 1 - c.val % 2 := rfl
  rcases Nat.mod_two_eq_zero_or_one c.val with h | h
  · rw [sums c r ⟨c.val / 2 * 1536 + r.val, by have : c.val < 4 := c.isLt; omega⟩ 0 rfl h, sums (pr c) r ⟨c.val / 2 * 1536 + r.val, by have : c.val < 4 := c.isLt; omega⟩ 1
      (by show c.val / 2 * 1536 + r.val = (pr c).val / 2 * 1536 + r.val; omega) (by show (pr c).val % 2 = 1; omega)]
    rfl
  · rw [sums c r ⟨c.val / 2 * 1536 + r.val, by have : c.val < 4 := c.isLt; omega⟩ 1 rfl h, sums (pr c) r ⟨c.val / 2 * 1536 + r.val, by have : c.val < 4 := c.isLt; omega⟩ 0
      (by show c.val / 2 * 1536 + r.val = (pr c).val / 2 * 1536 + r.val; omega) (by show (pr c).val % 2 = 0; omega)]
    exact add_comm _ _

end Cert.KernelIdeal.Exch
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's body table and the ideal program's, at machine words, are one: label by label the body is the same text. -/
theorem bodies_same : Cert.Kernel.defs₀ (F := Bits) = Cert.KernelIdeal.defs₀ (F := Bits) :=
  congrArg Defs.onTc (funext fun l => funext fun a => by
    match l, a with
    | ⟨0, _⟩, (t, s) => rfl
    | ⟨_ + 1, h⟩, _ => exact absurd h (Nat.not_lt.2 (Nat.le_add_left _ _)))

/-- So are the tables of the whole programs. -/
theorem tables_same : Cert.Kernel.defs (F := Bits) = Cert.KernelIdeal.defs (F := Bits) :=
  congrArg (Pipeline.defs Cert.Kernel.pcfgs) bodies_same

/-- The kernel as written: on every mesh of devices, every execution ends, leaves the argument as it was and every
    semaphore at zero. -/
theorem frame_kernel : Cert.quiescent_Kernel := by
  intro m ρ _
  have h := (θ_run Cert.KernelIdeal.defs _ _).mono
    (fun r (h : (∀ c : Dev Cert.KernelIdeal.nD, _ ∧ _) ∧ r.2.sem = fun _ => 0) =>
      (⟨fun c => (h.1 c).1, h.2⟩ : (∀ c : Dev Cert.KernelIdeal.nD, _) ∧ r.2.sem = fun _ => 0))
    (Cert.KernelIdeal.Exch.run_main (F := Bits) m ρ)
  rw [tables_same]
  exact h

/-- The same of the kernel over the extended reals. -/
theorem frame_kernel_ideal : Cert.quiescent_KernelIdeal := fun m ρ _ =>
  (θ_run Cert.KernelIdeal.defs _ _).mono (fun _ h => ⟨fun c => (h.1 c).1, h.2⟩)
    (Cert.KernelIdeal.Exch.run_main (F := Ideal) m ρ)

/-- The same of the reference, which has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Where every device starts with its block of the reference's argument, it ends with its rows of the reference's
    result. -/
theorem values_agree : Cert.algebraic_KernelIdeal_ReferenceIdeal := by
  intro m ρ m' ρ' _ hblk
  refine ⟨Cert.KernelIdeal.Exch.total (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun r h c => ⟨?_, (h.1 c).1⟩) (Cert.KernelIdeal.Exch.run_main (F := Ideal) m ρ)
    rw [(h.1 c).2]
    exact Cert.KernelIdeal.Exch.out_total _ _ hblk c
  · exact (θ_run Cert.ReferenceIdeal.defs _ _).mono (fun r h => ⟨(h 0).1, (h 0).2⟩) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_kernel_ideal, frame_reference, trivial, values_agree⟩

end Cert.Proof

end
